-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)) (v2 : (c : Dev Cert.KernelIdeal.nD) → Buf (Elt Ideal) ((c.tc : Thread Cert.KernelIdeal.nD Cert.KernelIdeal.τ).loc Cert.KernelIdeal.main_v2_1)) (v3 : (c : Dev Cert.KernelIdeal.nD) → Buf (Elt Ideal) ((c.tc : Thread Cert.KernelIdeal.nD Cert.KernelIdeal.τ).loc Cert.KernelIdeal.main_v2_2)) (v4 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_v2_1) = v2 c
          ∧ r.2.mem ((c.tc : Thread Cert.KernelIdeal.nD Cert.KernelIdeal.τ).loc Cert.KernelIdeal.main_v2_2) = v3 c
          ∧ r.2.mem ((c.tc : Thread Cert.KernelIdeal.nD Cert.KernelIdeal.τ).loc Cert.KernelIdeal.main_v2_3) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S6x1024x8192 : Shape := ⟨3, ![6, 1024, 8192]⟩
abbrev S8192x2048 : Shape := ⟨2, ![8192, 2048]⟩
abbrev S6x1024x2048 : Shape := ⟨3, ![6, 1024, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S6x1024x8192 .bf16) (main_arg1 : FVec F S8192x2048 .f32) (main_arg2 : FVec F S6x1024x2048 .bf16) : IVec S8192x2048 1 :=
  let main_v0 : FVec F S8192x2048 .f32 := Host.absf main_arg1
  let main_cst : FVec F S_ .f32 := constant S_ .f32 0x7F7FFFFF#32
  let main_v1 : FVec F S8192x2048 .f32 := broadcastInDim S8192x2048 ![] bcast_S_S8192x2048 main_cst
  let main_v2 : IVec S8192x2048 1 := cmpf .ole main_v0 main_v1
  main_v2
-- ==== Kernel.lean ====
abbrev S6x1024x8192 : Shape := ⟨3, ![6, 1024, 8192]⟩
abbrev S8192x2048 : Shape := ⟨2, ![8192, 2048]⟩
abbrev S6x1024x2048 : Shape := ⟨3, ![6, 1024, 2048]⟩
abbrev S6144x8192 : Shape := ⟨2, ![6144, 8192]⟩
abbrev S6144x2048 : Shape := ⟨2, ![6144, 2048]⟩
abbrev S64x16 : Shape := ⟨2, ![64, 16]⟩
abbrev S6144x256 : Shape := ⟨2, ![6144, 256]⟩
abbrev S256x2048 : Shape := ⟨2, ![256, 2048]⟩
abbrev S1x16 : Shape := ⟨2, ![1, 16]⟩
abbrev S128x128 : Shape := ⟨2, ![128, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S1x256 : Shape := ⟨2, ![1, 256]⟩
abbrev S512x8192 : Shape := ⟨2, ![512, 8192]⟩
abbrev S512x2048 : Shape := ⟨2, ![512, 2048]⟩

abbrev nBuf : Space → Nat
  | .hbm => 13
  | .vmem => 19
  | .smem => 0
  | _ => 0

abbrev bufTy : (tb : Table) → Fin (tcTables nBuf tb) → BufTy
  | .hbm, ⟨0, _⟩ => ⟨S6x1024x8192, .bf16⟩
  | .hbm, ⟨1, _⟩ => ⟨S8192x2048, .f32⟩
  | .hbm, ⟨2, _⟩ => ⟨S6x1024x2048, .bf16⟩
  | .hbm, ⟨3, _⟩ => ⟨S6144x8192, .bf16⟩
  | .hbm, ⟨4, _⟩ => ⟨S6144x2048, .bf16⟩
  | .hbm, ⟨5, _⟩ => ⟨S6144x8192, .bf16⟩
  | .hbm, ⟨6, _⟩ => ⟨S8192x2048, .f32⟩
  | .hbm, ⟨7, _⟩ => ⟨S8192x2048, .fp8e4m3⟩
  | .hbm, ⟨8, _⟩ => ⟨S64x16, .f32⟩
  | .hbm, ⟨9, _⟩ => ⟨S8192x2048, .bf16⟩
  | .hbm, ⟨10, _⟩ => ⟨S6144x2048, .bf16⟩
  | .hbm, ⟨11, _⟩ => ⟨S6x1024x2048, .bf16⟩
  | .hbm, ⟨12, _⟩ => ⟨S6x1024x8192, .bf16⟩
  | .local _ .vmem, ⟨0, _⟩ => ⟨S6144x256, .bf16⟩
  | .local _ .vmem, ⟨1, _⟩ => ⟨S6144x256, .bf16⟩
  | .local _ .vmem, ⟨2, _⟩ => ⟨S256x2048, .f32⟩
  | .local _ .vmem, ⟨3, _⟩ => ⟨S256x2048, .f32⟩
  | .local _ .vmem, ⟨4, _⟩ => ⟨S6144x2048, .bf16⟩
  | .local _ .vmem, ⟨5, _⟩ => ⟨S6144x256, .bf16⟩
  | .local _ .vmem, ⟨6, _⟩ => ⟨S6144x256, .bf16⟩
  | .local _ .vmem, ⟨7, _⟩ => ⟨S256x2048, .f32⟩
  | .local _ .vmem, ⟨8, _⟩ => ⟨S256x2048, .f32⟩
  | .local _ .vmem, ⟨9, _⟩ => ⟨S256x2048, .fp8e4m3⟩
  | .local _ .vmem, ⟨10, _⟩ => ⟨S256x2048, .fp8e4m3⟩
  | .local _ .vmem, ⟨11, _⟩ => ⟨S64x16, .f32⟩
  | .local _ .vmem, ⟨12, _⟩ => ⟨S256x2048, .bf16⟩
  | .local _ .vmem, ⟨13, _⟩ => ⟨S256x2048, .bf16⟩
  | .local _ .vmem, ⟨14, _⟩ => ⟨S512x8192, .bf16⟩
  | .local _ .vmem, ⟨15, _⟩ => ⟨S512x8192, .bf16⟩
  | .local _ .vmem, ⟨16, _⟩ => ⟨S8192x2048, .bf16⟩
  | .local _ .vmem, ⟨17, _⟩ => ⟨S512x2048, .bf16⟩
  | .local _ .vmem, ⟨18, _⟩ => ⟨S512x2048, .bf16⟩
  | _, _ => ⟨S6x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev main_v2_4 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem7_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem2_1 : DmaSem sig := 18

abbrev nD : Nat := 1
abbrev τ : Topo := Topo.v7x

variable {F : FTy → Type} [FloatOps F]

abbrev grid0 : Pipeline.Grid := ⟨1, ![32], ![false]⟩

def k0_off1 (i : grid0.Coords) (c0_i32_333 : BitVec 32) : Fin 2 → Nat :=
  let arg0 : BitVec 32 := BitVec.ofNat 32 (i 0).val
  let c2_i32_332 : BitVec 32 := 2#32
  let v882 : BitVec 32 := Scalar.muli arg0 c2_i32_332
  let v883 : BitVec 32 := Scalar.addi v882 c0_i32_333
  let v884 : Index := Scalar.indexCast v883
  let c0_334 : Index := 0#32
  ![v884.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6144x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6144x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S6144x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![12], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x8192 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8192x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x2048 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]
-- ==== ReferenceIdeal.lean ====
abbrev S6x1024x8192 : Shape := ⟨3, ![6, 1024, 8192]⟩
abbrev S8192x2048 : Shape := ⟨2, ![8192, 2048]⟩
abbrev S6x1024x2048 : Shape := ⟨3, ![6, 1024, 2048]⟩
abbrev S64x16 : Shape := ⟨2, ![64, 16]⟩
abbrev S64x128x16x128 : Shape := ⟨4, ![64, 128, 16, 128]⟩
abbrev S64x1x16x1 : Shape := ⟨4, ![64, 1, 16, 1]⟩
abbrev S6144x8192 : Shape := ⟨2, ![6144, 8192]⟩
abbrev S6144x2048 : Shape := ⟨2, ![6144, 2048]⟩

abbrev nBuf : Space → Nat
  | .hbm => 8
  | .vmem => 8
  | .smem => 0
  | _ => 0

abbrev bufTy : (tb : Table) → Fin (tcTables nBuf tb) → BufTy
  | .hbm, ⟨0, _⟩ => ⟨S6x1024x8192, .bf16⟩
  | .hbm, ⟨1, _⟩ => ⟨S8192x2048, .f32⟩
  | .hbm, ⟨2, _⟩ => ⟨S6x1024x2048, .bf16⟩
  | .hbm, ⟨3, _⟩ => ⟨S6x1024x2048, .bf16⟩
  | .hbm, ⟨4, _⟩ => ⟨S6x1024x8192, .bf16⟩
  | .hbm, ⟨5, _⟩ => ⟨S8192x2048, .f32⟩
  | .hbm, ⟨6, _⟩ => ⟨S8192x2048, .fp8e4m3⟩
  | .hbm, ⟨7, _⟩ => ⟨S64x16, .f32⟩
  | .local _ .vmem, ⟨0, _⟩ => ⟨S6x1024x8192, .bf16⟩
  | .local _ .vmem, ⟨1, _⟩ => ⟨S8192x2048, .f32⟩
  | .local _ .vmem, ⟨2, _⟩ => ⟨S6x1024x2048, .bf16⟩
  | .local _ .vmem, ⟨3, _⟩ => ⟨S6x1024x2048, .bf16⟩
  | .local _ .vmem, ⟨4, _⟩ => ⟨S6x1024x8192, .bf16⟩
  | .local _ .vmem, ⟨5, _⟩ => ⟨S8192x2048, .f32⟩
  | .local _ .vmem, ⟨6, _⟩ => ⟨S8192x2048, .fp8e4m3⟩
  | .local _ .vmem, ⟨7, _⟩ => ⟨S64x16, .f32⟩
  | _, _ => ⟨S6x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x1024x8192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x2048 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.KBlocks.lean ====
module

public import proofs.«01_k».proof.Proof.Gen.Kernel.Skeleton
public import proofs.«01_k».proof.Proof.Gen.Kernel.Regions
public import proofs.«01_k».proof.Proof.Gen.Kernel.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One 128 by 128 block -/

/-- The lower clipping bound, the float -448. -/
abbrev loBound : F .f32 := Scalar.ofBits .f32 0xC3E00000#32

/-- The codes the body stores for a block of the weight. -/
def codesB (wb : Vec F S128x128 .f32) : Vec F S128x128 .fp8e4m3 := k0_pay7 (k0_pay6 wb) loBound
/-- The dequantised block the body stores. -/
def wqB (wb : Vec F S128x128 .f32) : Vec F S128x128 .bf16 := k0_pay8 (k0_pay5 wb) (k0_pay6 wb) loBound

/-- The lane numbers of a scale row. -/
abbrev lanes : IVec S1x16 32 := iota .tc S1x16 32 [1] iota_S1x16_d1_w32

/-- One step of the scale row: lane `c` takes the block's scale. -/
def rowStep (c : BitVec 32) (acc : FVec F S1x16 .f32) (wb : Vec F S128x128 .f32) : FVec F S1x16 .f32 :=
  select (cmpi .eq lanes (broadcast S1x16 c))
    (broadcastTo S1x16 (shapeCast S1x1 (k0_pay5 wb) shapeCasts_S1x1_S1x1) broadcasts_S1x1_S1x16) acc

/-- The rectangle of block (r, c) in a block row of the weight. -/
abbrev rB (r : Fin 2) (c : Fin 16) : Rect S256x2048 :=
  Rect.unit (s := S256x2048) ![128 * r.val, 128 * c.val] S128x128.size
    (fun a => match a with
      | ⟨0, _⟩ => by have := r.isLt; show 128 * r.val + 128 ≤ 256; omega
      | ⟨1, _⟩ => by have := c.isLt; show 128 * c.val + 128 ≤ 2048; omega)

/-- Block (r, c) of the weight's window. -/
def blkB {φ : EltTy} (x : Vec F S256x2048 φ) (r : Fin 2) (c : Fin 16) : Vec F S128x128 φ := View.ld x (rB r c)

/-- The scale row of block row `r`. -/
def rowB (x : Vec F S256x2048 .f32) (r : Fin 2) : FVec F S1x16 .f32 :=
  rowStep 15#32 (rowStep 14#32 (rowStep 13#32 (rowStep 12#32 (rowStep 11#32 (rowStep 10#32 (rowStep 9#32 (rowStep 8#32 (rowStep 7#32 (rowStep 6#32 (rowStep 5#32 (rowStep 4#32 (rowStep 3#32 (rowStep 2#32 (rowStep 1#32 (rowStep 0#32 k0_pay2 (blkB x r 0)) (blkB x r 1)) (blkB x r 2)) (blkB x r 3)) (blkB x r 4)) (blkB x r 5)) (blkB x r 6)) (blkB x r 7)) (blkB x r 8)) (blkB x r 9)) (blkB x r 10)) (blkB x r 11)) (blkB x r 12)) (blkB x r 13)) (blkB x r 14)) (blkB x r 15)

/-- A function of blocks applied to every block of the window. -/
def tiles {φ : EltTy} (f : Vec F S128x128 .f32 → Vec F S128x128 φ) (x : Vec F S256x2048 .f32) : Vec F S256x2048 φ := fun y =>
  f (blkB x ⟨(y 0).val / 128, by have h : (y 0).val < 256 := (y 0).isLt; omega⟩
      ⟨(y 1).val / 128, by have h : (y 1).val < 2048 := (y 1).isLt; omega⟩)
    (ValueIdx.ix2 ⟨(y 0).val % 128, Nat.mod_lt _ (by decide)⟩ ⟨(y 1).val % 128, Nat.mod_lt _ (by decide)⟩)

/-- The blocks in the order the stores' pieces are listed (last first). -/
abbrev order : List (Fin 2 × Fin 16) := [(1, 15), (1, 14), (1, 13), (1, 12), (1, 11), (1, 10), (1, 9), (1, 8), (1, 7), (1, 6), (1, 5), (1, 4), (1, 3), (1, 2), (1, 1), (1, 0), (0, 15), (0, 14), (0, 13), (0, 12), (0, 11), (0, 10), (0, 9), (0, 8), (0, 7), (0, 6), (0, 5), (0, 4), (0, 3), (0, 2), (0, 1), (0, 0)]

/-- The pieces of a tilewise store. -/
abbrev tilePieces {φ : EltTy} (f : Vec F S128x128 .f32 → Vec F S128x128 φ) (x : Vec F S256x2048 .f32) :
    List (View.Piece (Elt F) S256x2048 φ) := order.map fun p => ⟨rB p.1 p.2, f (blkB x p.1 p.2)⟩

theorem order_mem : ∀ p : Fin 2 × Fin 16, p ∈ order := by decide

/-- A buffer after the tilewise stores reads `tiles`. -/
theorem read_tilePieces {φ : EltTy} {σ : RefSig} {k : Kind} {sp : Space} (v : View σ k sp S256x2048 φ) (fz : v.ty.Contents (Elt F))
    (f : Vec F S128x128 .f32 → Vec F S128x128 φ) (x : Vec F S256x2048 .f32) :
    v.read (Elt F) (v.writes (Elt F) fz (tilePieces f x)) = tiles f x := by
  funext y
  have h0 : (y 0).val < 256 := (y 0).isLt
  have h1 : (y 1).val < 2048 := (y 1).isLt
  refine View.read_writes_apply_of_pieces v fz (tiles f x) _ ?_ y ?_
  · intro p hp z
    obtain ⟨q, -, rfl⟩ := List.mem_map.mp hp
    obtain ⟨r, c⟩ := q
    have z0 : (z 0).val < 128 := (z 0).isLt
    have z1 : (z 1).val < 128 := (z 1).isLt
    have e0 : (((rB r c).emb z) 0).val = 128 * r.val + 1 * (z 0).val := rfl
    have e1 : (((rB r c).emb z) 1).val = 128 * c.val + 1 * (z 1).val := rfl
    unfold tiles
    show f (blkB x r c) z = _
    have hr : (⟨(((rB r c).emb z) 0).val / 128, by rw [e0]; have := r.isLt; omega⟩ : Fin 2) = r := Fin.ext (by show _ / 128 = _; rw [e0]; omega)
    have hc : (⟨(((rB r c).emb z) 1).val / 128, by rw [e1]; have := c.isLt; omega⟩ : Fin 16) = c := Fin.ext (by show _ / 128 = _; rw [e1]; omega)
    rw [hr, hc]
    congr 1
    refine funext fun a => Fin.ext ?_
    match a with
    | ⟨0, _⟩ => show (z 0).val = (((rB r c).emb z) 0).val % 128; rw [e0]; omega
    | ⟨1, _⟩ => show (z 1).val = (((rB r c).emb z) 1).val % 128; rw [e1]; omega
  · let r : Fin 2 := ⟨(y 0).val / 128, by omega⟩
    let c : Fin 16 := ⟨(y 1).val / 128, by omega⟩
    refine ⟨⟨rB r c, f (blkB x r c)⟩, List.mem_map.mpr ⟨(r, c), order_mem (r, c), rfl⟩, ?_⟩
    show y ∈ (rB r c).set
    rw [Rect.mem_set_unit]
    intro a
    match a with
    | ⟨0, _⟩ => show 128 * ((y 0).val / 128) ≤ (y 0).val ∧ (y 0).val < 128 * ((y 0).val / 128) + 128; omega
    | ⟨1, _⟩ => show 128 * ((y 1).val / 128) ≤ (y 1).val ∧ (y 1).val < 128 * ((y 1).val / 128) + 128; omega

/-- A store through the whole of a buffer leaves its payload, -/
theorem read_whole_store {S : Shape} {φ : EltTy} {σ : RefSig} {k : Kind} {sp : Space} (v : View σ k sp S φ) (fz : v.ty.Contents (Elt F))
    (off : Fin S.rank → Nat) (h : ∀ a, off a = 0) (inb : ∀ a, off a + S.size a ≤ S.size a) (w : Vec F S φ) :
    v.read (Elt F) (v.writes (Elt F) fz [⟨Rect.unit off S.size inb, w⟩]) = w :=
  funext fun y => View.read_writes_cons_hit_of_coords v fz (Rect.unit off S.size inb) w [] y y fun a => by
    show (y a).val = off a + 1 * (y a).val; rw [h]; omega

/-- and a load through it reads what the buffer holds. -/
theorem readAt_whole {S : Shape} {φ : EltTy} {σ : RefSig} {k : Kind} {sp : Space} (v : View σ k sp S φ) (fz : v.ty.Contents (Elt F))
    (off : Fin S.rank → Nat) (h : ∀ a, off a = 0) (inb : ∀ a, off a + S.size a ≤ S.size a) :
    v.readAt (Elt F) (Rect.unit off S.size inb).toLoadRect fz = v.read (Elt F) fz := by
  funext y
  show v.read (Elt F) fz ((Rect.unit off S.size inb).idx y) = _
  congr 1
  refine funext fun a => Fin.ext ?_
  show off a + 1 * (y a).val = (y a).val
  rw [h]; omega

/-- The scale window after the body at point `i`: rows 2i and 2i+1 take the two scale rows. -/
def rowsPut (i : ℕ) (x : Vec F S256x2048 .f32) (X : Vec F S64x16 .f32) : Vec F S64x16 .f32 := fun y =>
  if (y 0).val = i * 2 + 1 then rowB x 1 (ValueIdx.ix2 0 (y 1))
  else if (y 0).val = i * 2 then rowB x 0 (ValueIdx.ix2 0 (y 1)) else X y

theorem off_row_word : ∀ (n : Fin 32) (r : Fin 2),
    (Scalar.indexCast (Scalar.addi (Scalar.muli (BitVec.ofNat 32 n.val) 2#32) (BitVec.ofNat 32 r.val)) : Index).toNat = n.val * 2 + r.val := by decide

theorem off_row (i : grid0.Coords) (r : Fin 2) : k0_off1 i (BitVec.ofNat 32 r.val) = ![(i 0).val * 2 + r.val, 0] := by
  have h : (i 0).val < 32 := (i 0).isLt
  have hr := r.isLt
  unfold k0_off1
  funext a
  match a with
  | ⟨0, _⟩ => exact off_row_word (i 0) r
  | ⟨1, _⟩ => rfl

theorem read_rows {σ : RefSig} {k : Kind} {sp : Space} (v : View σ k sp S64x16 .f32) (fz : v.ty.Contents (Elt F)) (i : grid0.Coords)
    (x : Vec F S256x2048 .f32) :
    v.read (Elt F) (v.writes (Elt F) fz [⟨Rect.unit (s := S64x16) (k0_off1 i 1#32) S1x16.size (k0_off1_inb i 1), rowB x 1⟩,
      ⟨Rect.unit (s := S64x16) (k0_off1 i 0#32) S1x16.size (k0_off1_inb i 0), rowB x 0⟩]) = rowsPut (i 0).val x (v.read (Elt F) fz) := by
  have o1 : k0_off1 i 1#32 = ![(i 0).val * 2 + 1, 0] := off_row i 1
  have o0 : k0_off1 i 0#32 = ![(i 0).val * 2, 0] := off_row i 0
  funext y
  unfold rowsPut
  by_cases h1 : (y 0).val = (i 0).val * 2 + 1
  · rw [if_pos h1]
    refine View.read_writes_cons_hit_of_coords v fz (Rect.unit (s := S64x16) (k0_off1 i 1#32) S1x16.size (k0_off1_inb i 1)) (rowB x 1) _ (ValueIdx.ix2 0 (y 1)) y fun a => ?_
    match a with
    | ⟨0, _⟩ => show (y 0).val = k0_off1 i 1#32 0 + 1 * 0; rw [o1]; exact h1
    | ⟨1, _⟩ => show (y 1).val = k0_off1 i 1#32 1 + 1 * (y 1).val; rw [o1]; show _ = 0 + _; omega
  · rw [if_neg h1, View.read_writes_cons_miss_of_axis v fz _ _ y 0 ((i 0).val * 2 + 1) 1 (by show k0_off1 i 1#32 0 = _; rw [o1]; rfl) rfl rfl (by omega)]
    by_cases h0 : (y 0).val = (i 0).val * 2
    · rw [if_pos h0]
      refine View.read_writes_cons_hit_of_coords v fz (Rect.unit (s := S64x16) (k0_off1 i 0#32) S1x16.size (k0_off1_inb i 0)) (rowB x 0) _ (ValueIdx.ix2 0 (y 1)) y fun a => ?_
      match a with
      | ⟨0, _⟩ => show (y 0).val = k0_off1 i 0#32 0 + 1 * 0; rw [o0]; exact h0
      | ⟨1, _⟩ => show (y 1).val = k0_off1 i 0#32 1 + 1 * (y 1).val; rw [o0]; show _ = 0 + _; omega
    · rw [if_neg h0, View.read_writes_cons_miss_of_axis v fz _ _ y 0 ((i 0).val * 2) 1 (by show k0_off1 i 0#32 0 = _; rw [o0]; rfl) rfl rfl (by omega)]
      rfl

end Cert.Kernel.Gen

end
-- ==== Proof.KBackward.lean ====
module

public import proofs.«01_k».proof.Proof.KBlocks
public import proofs.«01_k».proof.Proof.Gen.Kernel.Skeleton
public import proofs.«01_k».proof.Proof.Gen.Kernel.Regions
public import proofs.«01_k».proof.Proof.Gen.Kernel.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The backward body, from the windows' blocks to what it leaves in each. -/
theorem sound_backward (c : Dev nD) (E : Set ℕ) (i : grid0.Coords) (arg1 : Memref sig .tc .vmem S6144x256 .bf16) (harg1 : arg1.IsWhole) (arg2 : Memref sig .tc .vmem S256x2048 .f32) (harg2 : arg2.IsWhole) (arg3 : Memref sig .tc .vmem S6144x2048 .bf16) (harg3 : arg3.IsWhole) (arg4 : Memref sig .tc .vmem S6144x256 .bf16) (harg4 : arg4.IsWhole) (arg5 : Memref sig .tc .vmem S256x2048 .f32) (harg5 : arg5.IsWhole) (arg6 : Memref sig .tc .vmem S256x2048 .fp8e4m3) (harg6 : arg6.IsWhole)
    (arg7 : Memref sig .tc .vmem S64x16 .f32) (harg7 : arg7.IsWhole) (arg8 : Memref sig .tc .vmem S256x2048 .bf16) (harg8 : arg8.IsWhole)
    (x0 : Vec F S6144x256 .bf16) (x1 : Vec F S256x2048 .f32) (x2 : Vec F S6144x2048 .bf16) (x6 : Vec F S64x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
           ∗ owns (c : Thread nD τ) arg4 fullShare (k0_pay237 x2 (tiles wqB x1)) ∗ owns (c : Thread nD τ) arg5 fullShare (k0_pay1 x0 x2)
           ∗ owns (c : Thread nD τ) arg6 fullShare (tiles codesB x1) ∗ owns (c : Thread nD τ) arg7 fullShare (rowsPut (i 0).val x1 x6)
           ∗ owns (c : Thread nD τ) arg8 fullShare (tiles wqB x1)) -∗ K ⟨⟩))
      ⊢ wp frame (wpE (defs₀ (F := F)) Variants.none c none) E (cc0_backward i arg1 harg1 arg2 harg2 arg3 harg3 arg4 harg4 arg5 harg5 arg6 harg6 arg7 harg7 arg8 harg8) K := by
  simp only [cc0_backward_eq_skeleton]; unfold cc0_backward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%d7, %f7, -, H7⟩, Hk⟩
  subst hf0 hf1 hf2 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_whole_store arg4.view f3 ![0, 0] (by decide) inb_S6144x256_S6144x256_0_0 _).trans ?_
    have e2 := readAt_whole arg3.view f2 ![0, 0] (by decide) inb_S6144x2048_S6144x2048_0_0
    have e8 : sound_backward.sl.v1773 c arg2 arg8 f1 = tiles wqB (arg2.view.read (Elt F) f1) :=
      (readAt_whole arg8.view (arg8.view.writes (Elt F) arg8.view.junk (tilePieces wqB (arg2.view.read (Elt F) f1))) ![0, 0] (by decide)
        inb_S256x2048_S256x2048_0_0).trans (read_tilePieces arg8.view _ wqB (arg2.view.read (Elt F) f1))
    rw [e8]
    exact congrArg (fun z => k0_pay237 z _) e2
  isplitl [H4]
  · iexists _; isplitr
    swap; · iexact H4
    ipureintro
    refine (read_whole_store arg5.view f4 ![0, 0] (by decide) inb_S256x2048_S256x2048_0_0 _).trans ?_
    exact congrArg₂ k0_pay1 (readAt_whole arg1.view f0 ![0, 0] (by decide) inb_S6144x256_S6144x256_0_0)
      (readAt_whole arg3.view f2 ![0, 0] (by decide) inb_S6144x2048_S6144x2048_0_0)
  isplitl [H5]
  · iexists _; isplitr
    swap; · iexact H5
    ipureintro
    exact read_tilePieces arg6.view f5 codesB (arg2.view.read (Elt F) f1)
  isplitl [H6]
  · iexists _; isplitr
    swap; · iexact H6
    ipureintro
    exact read_rows arg7.view f6 i (arg2.view.read (Elt F) f1)
  iexists _; isplitr
  swap; · iexact H7
  ipureintro
  exact read_tilePieces arg8.view f7 wqB (arg2.view.read (Elt F) f1)

end Cert.Kernel.Gen

end
-- ==== Proof.KForward.lean ====
module

public import proofs.«01_k».proof.Proof.KBlocks
public import proofs.«01_k».proof.Proof.Gen.Kernel.Skeleton
public import proofs.«01_k».proof.Proof.Gen.Kernel.Regions
public import proofs.«01_k».proof.Proof.Gen.Kernel.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The forward body, from the windows' blocks to the product it leaves in the output window. -/
theorem sound_forward (c : Dev nD) (E : Set ℕ) (i : grid1.Coords) (arg1 : Memref sig .tc .vmem S512x8192 .bf16) (harg1 : arg1.IsWhole) (arg2 : Memref sig .tc .vmem S8192x2048 .bf16) (harg2 : arg2.IsWhole) (arg3 : Memref sig .tc .vmem S512x2048 .bf16) (harg3 : arg3.IsWhole)
    (x0 : Vec F S512x8192 .bf16) (x1 : Vec F S8192x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1_forward i arg1 harg1 arg2 harg2 arg3 harg3) K := by
  simp only [cc1_forward_eq_skeleton]; unfold cc1_forward_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_whole_store arg3.view f2 ![0, 0] (by decide) inb_S512x2048_S512x2048_0_0 _).trans ?_
  exact congrArg₂ k1_pay1 (readAt_whole arg1.view f0 ![0, 0] (by decide) inb_S512x8192_S512x8192_0_0)
    (readAt_whole arg2.view f1 ![0, 0] (by decide) inb_S8192x2048_S8192x2048_0_0)

end Cert.Kernel.Gen

end
-- ==== Proof.KData.lean ====
module

public import proofs.«01_k».proof.Proof.KBackward
public import proofs.«01_k».proof.Proof.KForward
public import Idealize.ShloMosaic.Lib.Pipeline.DatRel
public import Idealize.ShloMosaic.Lib.Pipeline.ArrRel
public import Idealize.ShloMosaic.Lib.Pipeline.Cells
public import proofs.«01_k».proof.Proof.Gen.Kernel.Skeleton
public import proofs.«01_k».proof.Proof.Gen.Kernel.Regions
public import proofs.«01_k».proof.Proof.Gen.Kernel.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- The contents of the buffers outside the kernels' scope when a region is entered, per core. -/
abbrev Entry (F : FTy → Type) : Type := Dev nD → Valuation τ sig (Elt F)

variable (V : Entry F)

/-- Region 0's window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

theorem before0_0_of {c : Dev nD} (dat : Dat τ (Elt F) Unit ℕ (UR sig nD τ) ℕ cfg0 c) (hA : dat.A 0 = V c (Proc.devRef .tc (Pipeline.arrRef spec0 0)))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Proc.devRef .tc (Pipeline.arrRef spec0 1)))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Proc.devRef .tc (Pipeline.arrRef spec0 2)))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole scale matrix: row 2t+r is scale row r of the weight block at point t. -/
def scaleMat (c : Dev nD) : Vec F S64x16 .f32 := fun y =>
  rowB (iblk0 V c 1 ⟨(y 0).val / 2, by have h : (y 0).val < 64 := (y 0).isLt; rw [show cfg0.N = 32 from N_0]; omega⟩)
    ⟨(y 0).val % 2, Nat.mod_lt _ (by decide)⟩ (ValueIdx.ix2 0 (y 1))

/-- Region 0's proof data: the arrays as the region finds them, and what each window's buffer holds after the body. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => k0_pay237 (iblk0 V c 2 t) (tiles wqB (iblk0 V c 1 t))
    | ⟨4, _⟩ => k0_pay1 (iblk0 V c 0 t) (iblk0 V c 2 t)
    | ⟨5, _⟩ => tiles codesB (iblk0 V c 1 t)
    | ⟨6, _⟩ => scaleMat V c
    | ⟨7, _⟩ => tiles wqB (iblk0 V c 1 t)
  Φ _ := Pipeline.ΦA spec0 c
  q _ := fullShare
  owed _ := 0

theorem A0_eq (c : Dev nD) (w : Fin cfg0.W) : (dat0 V c).A w = V c (Proc.devRef .tc (Pipeline.arrRef spec0 w)) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay237 (iblk0 V c 2 t) (tiles wqB (iblk0 V c 1 t)) := by dsimp only [dat0]
theorem after0_4 (c : Dev nD) (t : Fin cfg0.N) : (dat0 V c).after 4 t = k0_pay1 (iblk0 V c 0 t) (iblk0 V c 2 t) := by dsimp only [dat0]
theorem after0_5 (c : Dev nD) (t : Fin cfg0.N) : (dat0 V c).after 5 t = tiles codesB (iblk0 V c 1 t) := by dsimp only [dat0]
theorem after0_6 (c : Dev nD) (t : Fin cfg0.N) : (dat0 V c).after 6 t = scaleMat V c := by dsimp only [dat0]
theorem after0_7 (c : Dev nD) (t : Fin cfg0.N) : (dat0 V c).after 7 t = tiles wqB (iblk0 V c 1 t) := by dsimp only [dat0]
theorem before0_0 (c : Dev nD) (t : Fin cfg0.N) (d) : (dat0 V c).before 0 t d = iblk0 V c 0 t := before0_0_of V (dat0 V c) (A0_eq V c 0) (after0_0 V c) t d
theorem before0_1 (c : Dev nD) (t : Fin cfg0.N) (d) : (dat0 V c).before 1 t d = iblk0 V c 1 t := before0_1_of V (dat0 V c) (A0_eq V c 1) (after0_1 V c) t d
theorem before0_2 (c : Dev nD) (t : Fin cfg0.N) (d) : (dat0 V c).before 2 t d = iblk0 V c 2 t := before0_2_of V (dat0 V c) (A0_eq V c 2) (after0_2 V c) t d

/-- The one window held to a relation: the scale matrix, filled two rows at a point. -/
def fgt0 : Fin cfg0.W → Bool := fun | ⟨6, _⟩ => true | _ => false
/-- After point `t` the rows below 2(t+1) are those of the scale matrix. -/
def Rl0 (c : Dev nD) : (w : Fin cfg0.W) → Fin cfg0.N → ((cfg0.win w).block.Idx → Elt F (cfg0.win w).elt) → Prop
  | ⟨6, _⟩, t, X => ∀ y : S64x16.Idx, (y 0).val < 2 * (t.val + 1) → X y = scaleMat V c y
  | _, _, _ => True

/-- Region 0's data with the scale window held to the relation. -/
def rdat0 (c : Dev nD) : RDat τ (Elt F) Unit ℕ (UR sig nD τ) ℕ cfg0 c := (dat0 V c).toRRel fgt0 (Rl0 V c)

theorem coords0 : ∀ t : Fin cfg0.N, (grid0.coords t 0).val = t.val := by decide

theorem fetch0_6 (t : Fin cfg0.N) : (cfg0.win 6).fetch t = false := rfl

/-- What the scale window may hold before point `t`: the rows already filled. -/
theorem finds6 (c : Dev nD) (t : Fin cfg0.N) (X : Vec F S64x16 .f32) (h : ((dat0 V c).toRRel fgt0 (Rl0 V c)).Finds 6 t X) :
    ∀ y : S64x16.Idx, (y 0).val < 2 * t.val → X y = scaleMat V c y := by
  intro y hy
  have ht : t.val ≠ 0 := by omega
  rcases (RDat.finds_of_pos _ (fetch0_6 t) ht X).mp h with hf | hl
  · exfalso
    have h1 := (flush0_6 _).mp hf
    have h2 : t.val < 32 := lt_of_lt_of_eq t.isLt N_0
    dsimp only at h1; omega
  · have h3 := (dat0 V c).toRRel_leaves (fgt := fgt0) (Rl := Rl0 V c) (w := 6) rfl hl
    exact (show ∀ y : S64x16.Idx, (y 0).val < 2 * (t.val - 1 + 1) → X y = scaleMat V c y from h3) y (by omega)

/-- Two more rows. -/
theorem rows_step (c : Dev nD) (t : Fin cfg0.N) (X : Vec F S64x16 .f32) (h : ∀ y : S64x16.Idx, (y 0).val < 2 * t.val → X y = scaleMat V c y) :
    ∀ y : S64x16.Idx, (y 0).val < 2 * (t.val + 1) → rowsPut (grid0.coords t 0).val (iblk0 V c 1 t) X y = scaleMat V c y := by
  intro y hy
  unfold rowsPut
  rw [coords0]
  have key : ∀ (r : Fin 2), (y 0).val = t.val * 2 + r.val → rowB (iblk0 V c 1 t) r (ValueIdx.ix2 0 (y 1)) = scaleMat V c y := by
    intro r hr
    unfold scaleMat
    have h2 : r.val < 2 := r.isLt
    congr 2
    · congr 1; exact Fin.ext (by show t.val = (y 0).val / 2; omega)
    · exact Fin.ext (by show r.val = (y 0).val % 2; omega)
  by_cases h1 : (y 0).val = t.val * 2 + 1
  · rw [if_pos h1]; exact key 1 h1
  rw [if_neg h1]
  by_cases h0 : (y 0).val = t.val * 2
  · rw [if_pos h0]; exact key 0 h0
  rw [if_neg h0]; exact h y (by omega)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ Y, ⌜((dat0 V c).toRRel fgt0 (Rl0 V c)).Finds 6 t Y⌝ ∗ owns (c : Thread nD τ) (st0_6 t) fullShare Y)
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (∃ X, ⌜Rl0 V c 6 t X⌝ ∗ owns (c : Thread nD τ) (st0_6 t) fullShare X)
    ∗ owns (c : Thread nD τ) (st0_7 t) fullShare ((dat0 V c).after 7 t))

/-- Region 0's body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_7]
  iintro ⟨HΦ, Ho, ⟨%d0, H0⟩, ⟨%d1, H1⟩, ⟨%d2, H2⟩, ⟨%d3, H3⟩, ⟨%d4, H4⟩, ⟨%d5, H5⟩, ⟨%d6, %h6, H6⟩, ⟨%d7, H7⟩⟩
  iapply (sound_backward c Set.univ (grid0.coords t) _ _ _ _ _ _ _ _ _ _ _ _ _ _ _ _ (iblk0 V c 0 t) (iblk0 V c 1 t) (iblk0 V c 2 t) d6 _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact rows_step V c t d6 (finds6 V c t d6 h6)
  iexact H7

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : (rdat0 V c).BodyObligation (defs₀ (F := F)) Variants.none () Set.univ :=
  BodyObligationRel.toRRel _ (show BodyObligationRel (dat0 V c) (defs₀ (F := F)) Variants.none () Set.univ fgt0 (Rl0 V c) from fun t => by
    rw [bigSep_W0, bigSep_W0, defs₀_row0]
    exact triple_restated (sound_body0 V c t) rfl .rfl fun _ => .rfl)

/-- What each array may hold after region 0 is what the exact data name. -/
theorem exit0 (c : Dev nD) (w : Fin cfg0.W) (G : Buf (Elt F) ((cfg0.win w).arr.view.loc (c.tc : Thread nD τ)))
    (h : (rdat0 V c).ArrAt w cfg0.N G) : G = (dat0 V c).arrAt w cfg0.N := by
  by_cases hw : fgt0 w = true
  · obtain rfl : w = 6 := (show ∀ w : Fin 8, fgt0 w = true → w = 6 by decide) w hw
    obtain ⟨X, hX, hA⟩ := h.exists_exact
    refine hA (dat0 V c).after fun u hu hf => ?_
    have h3 := (dat0 V c).toRRel_leaves (fgt := fgt0) (Rl := Rl0 V c) (w := 6) rfl (hX u hu hf)
    have h4 : u.val = 31 := by
      have h1 := (flush0_6 _).mp hf
      have h2 : u.val < 32 := lt_of_lt_of_eq u.isLt N_0
      omega
    rw [after0_6]
    funext y
    refine ((show ∀ y : S64x16.Idx, (y 0).val < 2 * (u.val + 1) → X u y = scaleMat V c y from h3) y ?_).symm
    have h5 : (y 0).val < 64 := (y 0).isLt
    omega
  · refine (dat0 V c).toR_arrAt w _ G ?_
    exact (RDat.override_arrAt (rd := (dat0 V c).toR) (by simp only [Bool.eq_false_iff.mpr hw]) _ G).mp h

/-- Region 1's window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem before1_0_of {c : Dev nD} (dat : Dat τ (Elt F) Unit ℕ (UR sig nD τ) ℕ cfg1 c) (hA : dat.A 0 = V c (Proc.devRef .tc (Pipeline.arrRef spec1 0)))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Proc.devRef .tc (Pipeline.arrRef spec1 1)))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Region 1's proof data: the arrays as the region finds them, and what each window's buffer holds after the body. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A1_eq (c : Dev nD) (w : Fin cfg1.W) : (dat1 V c).A w = V c (Proc.devRef .tc (Pipeline.arrRef spec1 w)) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem before1_0 (c : Dev nD) (t : Fin cfg1.N) (d) : (dat1 V c).before 0 t d = iblk1 V c 0 t := before1_0_of V (dat1 V c) (A1_eq V c 0) (after1_0 V c) t d
theorem before1_1 (c : Dev nD) (t : Fin cfg1.N) (d) : (dat1 V c).before 1 t d = iblk1 V c 1 t := before1_1_of V (dat1 V c) (A1_eq V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- Region 1's body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_forward c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

/-- Region 1's data, exact. -/
def rdat1 (c : Dev nD) : RDat τ (Elt F) Unit ℕ (UR sig nD τ) ℕ cfg1 c := (dat1 V c).toR

theorem body_obligation1 (c : Dev nD) : (rdat1 V c).BodyObligation (defs₀ (F := F)) Variants.none () Set.univ :=
  (show BodyObligation (dat1 V c) (defs₀ (F := F)) Variants.none () Set.univ from fun t => by
    rw [bigSep_W1, bigSep_W1, defs₀_row1]
    exact triple_restated (sound_body1 V c t) rfl .rfl fun _ => .rfl).loose.toR

theorem exit1 (c : Dev nD) (w : Fin cfg1.W) (G : Buf (Elt F) ((cfg1.win w).arr.view.loc (c.tc : Thread nD τ)))
    (h : (rdat1 V c).ArrAt w cfg1.N G) : G = (dat1 V c).arrAt w cfg1.N := (dat1 V c).toR_arrAt w _ G h

end Cert.Kernel.Gen

end
-- ==== Proof.RegionExact.lean ====
module

public import Idealize.ShloMosaic.Lib.Pipeline.Frame
public import Idealize.ShloMosaic.Lib.Pipeline.Kit
public import Idealize.ShloMosaic.Lib.Pipeline.Regions
public import Idealize.ShloMosaic.Lib.Pipeline.RegionArrays
public import Idealize.ShloMosaic.Lib.Pipeline.RegionArraysF

@[expose] public section

noncomputable section

namespace Cert.RegionExact

open Idealize.ShloMosaic Idealize.ShloMosaic.TcCoe
open Idealize.SL Idealize.SL.RA
open Idealize.SL.BI (sProp bigSep bigSep_congr bigSep_map)
open scoped Idealize.SL.BI
open Idealize.SL.BI.BIBase Idealize.SL.BI.Laws Idealize.SL.Sem Idealize.SL.ProofMode
open Idealize.ShloMosaic.Rounds
open Idealize.ShloMosaic.Pipeline

variable {nD : Nat} {τ : Topo} {sig : RefSig} {Val : EltTy → Type} {U : Type} [URA U]

local notation "𝕄" => MT nD τ sig Unit Val ℕ U ℕ

variable {Λ₀ : Idealize.SL.Sem.Labels} {P : Type} [Fintype P]
variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ) (p : P)

omit [Fintype P] in
/-- A pipeline's arrays at contents `G`, as device buffers held at any valuation that has them at `G`. -/
theorem arrays_held (kit : PLaunchFacts (nD := nD) (τ := τ) pcs p) (c : Dev nD) (hshare : ∀ w, (rdats p c).share w = fullShare)
    (G : (w : Fin (pin pcs a p).W) → Buf Val (((pin pcs a p).win w).arr.view.loc (c.tc : Thread nD τ))) (Wc : Valuation τ sig Val)
    (hG : ∀ w, G w = Wc (Proc.devRef .tc (arrRef (pin pcs a p).spec w))) :
    ((rdats p c).arrays G : sProp 𝕄) = StableHlo.held (c.tc : Thread nD τ) (arrRefs (pcs p).spec) Wc := by
  rw [RDat.arrays_eq pcs a rdats p c kit.arr_whole hshare G]
  unfold StableHlo.held arrRefs
  rw [bigSep_map, show Finset.univ.image (arrRef (pcs p).spec) = Finset.univ.map ⟨arrRef (pcs p).spec, kit.win.arr_inj⟩ from
    (Finset.map_eq_image ⟨arrRef (pcs p).spec, kit.win.arr_inj⟩ Finset.univ).symm, bigSep_map]
  exact bigSep_congr fun w _ => by rw [hG]; rfl

omit [Fintype P] in
/-- If what an array may hold at the end is one contents, the arrays are left at those contents. -/
theorem arraysAt_exact (c : Dev nD) (n : ℕ) (B : (w : Fin (pin pcs a p).W) → Buf Val (((pin pcs a p).win w).arr.view.loc (c.tc : Thread nD τ)))
    (h : ∀ w G, (rdats p c).ArrAt w n G → G = B w) :
    ((rdats p c).arraysAt n : sProp 𝕄) ⊢ (rdats p c).arrays B := by
  unfold RDat.arraysAt RDat.arrays
  refine BI.bigSep_mono fun w _ =>
    show iprop(∃ G, ⌜(rdats p c).ArrAt w n G⌝ ∗ ((pin pcs a p).win w).arr.view.loc (c.tc : Thread nD τ) ↦[((pin pcs a p).win w).arr.view.set]{(rdats p c).share w} G)
      ⊢ (((pin pcs a p).win w).arr.view.loc (c.tc : Thread nD τ) ↦[((pin pcs a p).win w).arr.view.set]{(rdats p c).share w} B w : sProp 𝕄) from ?_
  iintro ⟨%G, %hG, H⟩
  rw [h w G hG]
  iexact H

/-- A region between two valuations of the buffers outside the kernels' scope: entered with the arrays as `W` has them, left
    with the arrays as `W'` has them, every other buffer unchanged, and the generator register at some state. -/
def region (kit : PLaunchFacts (nD := nD) (τ := τ) pcs p) (hK : (pcs p).pre.K = 0)
    (hbody : ∀ c, (rdats p c).BodyObligation defs₀ 𝒱₀ () Set.univ)
    (howed : ∀ c t, (rdats p c).owed t = 0) (hrec : ∀ c, (rdats p c).recorded 0 = Set.univ)
    (hshare : ∀ c w, (rdats p c).share w = fullShare) (hΦ : ∀ c t, (rdats p c).Φ t = ΦA (pin pcs a p).spec c)
    (S : Finset (DevRef τ sig)) (hS : arrRefs (pcs p).spec ⊆ S)
    (W W' : Dev nD → Valuation τ sig Val)
    (hA : ∀ c w, (rdats p c).A w = W c (Proc.devRef .tc (arrRef (pin pcs a p).spec w)))
    (hN : ∀ c w G, (rdats p c).ArrAt w (pin pcs a p).N G → G = W' c (Proc.devRef .tc (arrRef (pin pcs a p).spec w)))
    (hoff : ∀ c, ∀ d ∈ S \ arrRefs (pcs p).spec, W' c d = W c d) :
    RDat.RegionSeg pcs a rdats () defs₀ 𝒱₀ L lv p where
  win := kit.to₀.win
  block_pos := kit.to₀.block_pos
  stage_whole := kit.to₀.stage_whole
  K := PEmpty
  osem k := k.elim
  ho := OwnSemFacts.none _
  hbody := hbody
  hwaits c := RDat.hwaits_of_owed_zero pcs a rdats () L lv p howed c
  pre c := iprop(StableHlo.held (c.tc : Thread nD τ) S (W c) ∗ (∃ r, prngReg c r) ∗ ∃ Wd, owes (c.tc : Thread nD τ) (0 : CellTallies nD τ sig Unit) Wd)
  post c := iprop(StableHlo.held (c.tc : Thread nD τ) S (W' c) ∗ (∃ r, prngReg c r) ∗ ∃ Wd, owes (c.tc : Thread nD τ) (0 : CellTallies nD τ sig Unit) Wd)
  X c := iprop(∃ r, prngReg c r)
  Y c := iprop(∃ r, prngReg c r)
  Z c := StableHlo.held (c.tc : Thread nD τ) (S \ arrRefs (pcs p).spec) (W c)
  hentry c := by
    rw [ownSems0_none, prefHeld_of_none _ hK, StableHlo.held_sub_split (c.tc : Thread nD τ) hS (W c),
      ← arrays_held pcs a rdats p kit c (hshare c) (rdats p c).A (W c) (hA c)]
    iintro ⟨⟨⟨Ha, Hr⟩, HX, HO⟩, -, -⟩
    imodintro
    isplitl [Ha]; · iexact Ha
    isplitr; · iempintro
    isplitl [HO]
    · unfold RDat.owesAt owesWithin RDat.bound
      rw [howed c 0, hrec c]
      icases HO with ⟨%Wd, HO⟩; iexists Wd; isplitr; · ipureintro; exact fun _ _ => Or.inl trivial
      iexact HO
    isplitl [HX]; · iexact HX
    iexact Hr
  hin c := by
    rw [hΦ]; unfold ΦA
    iintro ⟨HX, -, Hr⟩
    isplitl [Hr]; · iexact Hr
    iexact HX
  hout c := by
    rw [hΦ, ownSems0_none]; unfold ΦA
    iintro ⟨Hr, HY⟩
    isplitl [HY]; · iexact HY
    isplitr; · iempintro
    iexact Hr
  hexit c := by
    iintro ⟨Ha, HO, HY, Hr⟩
    ihave Ha := (arraysAt_exact pcs a rdats p c (pin pcs a p).N (fun w => W' c (Proc.devRef .tc (arrRef (pin pcs a p).spec w))) (hN c)) $$ Ha
    imodintro
    rw [StableHlo.held_sub_split (c.tc : Thread nD τ) hS (W' c), StableHlo.held_congr (c.tc : Thread nD τ) (hoff c),
      ← arrays_held pcs a rdats p kit c (hshare c) (fun w => W' c (Proc.devRef .tc (arrRef (pin pcs a p).spec w))) (W' c) (fun _ => rfl)]
    isplitl [Ha Hr]
    · isplitl [Ha]; · iexact Ha
      iexact Hr
    isplitl [HY]; · iexact HY
    unfold RDat.owesAt owesWithin
    rw [howed c (Fin.last _)]
    icases HO with ⟨%Wd, -, HO⟩; iexists Wd; iexact HO

end Cert.RegionExact

end
-- ==== Proof.KRun.lean ====
module

public import proofs.«01_k».proof.Proof.KData
public import proofs.«01_k».proof.Proof.RegionExact
public import Idealize.ShloMosaic.Lib.Pipeline.FrameTail
public import Idealize.ShloMosaic.Lib.Pipeline.DatRel
public import Idealize.ShloMosaic.Lib.Pipeline.ArrRel
public import Idealize.ShloMosaic.Lib.Pipeline.Cells
public import proofs.«01_k».proof.Proof.Gen.Kernel.Skeleton
public import proofs.«01_k».proof.Proof.Gen.Kernel.Regions
public import proofs.«01_k».proof.Proof.Gen.Kernel.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents when region 0 is entered: the launch contents after the two input reshapes. -/
def enter0 : Entry F := fun c => StableHlo.after hostOps0 (V0 m c)
/-- The contents when region 1 is entered: what region 0 leaves. -/
def enter1 : Entry F := fun c => Pipeline.afterRegion (dat0 (enter0 m) c) (enter0 m c)
/-- The contents when region 1 is left. -/
def leave1 : Entry F := fun c => Pipeline.afterRegion (dat1 (enter1 m) c) (enter1 m c)
/-- The contents at the end, after the two output reshapes. -/
def atEnd : Entry F := fun c => StableHlo.after hostOps2 (leave1 m c)

/-- Both regions' proof data. -/
def rdats : (p : Fin 2) → (c : Dev nD) → RDat τ (Elt F) Unit ℕ (UR sig nD τ) ℕ (Pipeline.pin (pcfgs (F := F)) adm p) c
  | ⟨0, _⟩ => rdat0 (enter0 m)
  | ⟨1, _⟩ => rdat1 (enter1 m)

abbrev noLevels : GSem nD τ sig → Finset Unit := fun _ => ∅
abbrev level : GSem nD τ sig → Unit → ℕ := fun _ _ => 0

/-- What rides along between the items: the generator register at some state, nothing owed. -/
abbrev rest (c : Dev nD) : sProp 𝕄 := iprop((∃ r, prngReg c r) ∗ ∃ Wd, owes (c.tc : Thread nD τ) (0 : CellTallies nD τ sig Unit) Wd)

def first : Pipeline.HostSeg (Ix := Unit) (Name := ℕ) (U := UR sig nD τ) (Lvl := ℕ) (pcfgs (F := F)) defs₀ Variants.none noLevels level :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
def last : Pipeline.HostSeg (Ix := Unit) (Name := ℕ) (U := UR sig nD τ) (Lvl := ℕ) (pcfgs (F := F)) defs₀ Variants.none noLevels level :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (leave1 m) rest

/-- Off a region's arrays nothing changes. -/
theorem afterRegion_off {Λ : Idealize.SL.Sem.Labels} {cfg : Cfg sig Λ} {c : Dev nD} (dat : Dat τ (Elt F) Unit ℕ (UR sig nD τ) ℕ cfg c)
    (W : Valuation τ sig (Elt F)) (d : DevRef τ sig) (h : d ∉ Pipeline.arrRefs (τ := τ) cfg.spec) : Pipeline.afterRegion dat W d = W d := by
  unfold Pipeline.afterRegion
  rw [dif_neg]
  rintro ⟨w, rfl⟩
  exact h (Finset.mem_map.mpr ⟨_, Finset.mem_image.mpr ⟨w, Finset.mem_univ _, rfl⟩, rfl⟩)

theorem unscoped0 : ∀ w : Fin 8, (Pipeline.arrRef cfg0.spec w).isScoped = false := by decide
theorem unscoped1 : ∀ w : Fin 3, (Pipeline.arrRef cfg1.spec w).isScoped = false := by decide

set_option backward.isDefEq.respectTransparency.types false in
def reg0 : RDat.RegionSeg (pcfgs (F := F)) adm (rdats m) () defs₀ Variants.none noLevels level 0 :=
  Cert.RegionExact.region (pcfgs (F := F)) adm (rdats m) defs₀ Variants.none noLevels level 0 launch0.toP rfl
    (body_obligation0 (enter0 m)) (fun _ _ => rfl) (fun _ => rfl) (fun c => (dat0 (enter0 m) c).share_full fun _ => rfl) (fun _ _ => rfl)
    (Pipeline.ucRefs τ sig) (Pipeline.arrRefs_sub_ucRefs _ unscoped0) (enter0 m) (enter1 m) (fun _ _ => rfl)
    (fun c w G h => (exit0 (enter0 m) c w G h).trans (Pipeline.afterRegion_arr (dat0 (enter0 m) c) (enter0 m c) launch0.win.arr_inj w).symm)
    (fun c d hd => afterRegion_off (dat0 (enter0 m) c) (enter0 m c) d (Finset.mem_sdiff.mp hd).2)

set_option backward.isDefEq.respectTransparency.types false in
def reg1 : RDat.RegionSeg (pcfgs (F := F)) adm (rdats m) () defs₀ Variants.none noLevels level 1 :=
  Cert.RegionExact.region (pcfgs (F := F)) adm (rdats m) defs₀ Variants.none noLevels level 1 launch1.toP rfl
    (body_obligation1 (enter1 m)) (fun _ _ => rfl) (fun _ => rfl) (fun c => (dat1 (enter1 m) c).share_full fun _ => rfl) (fun _ _ => rfl)
    (Pipeline.ucRefs τ sig) (Pipeline.arrRefs_sub_ucRefs _ unscoped1) (enter1 m) (leave1 m) (fun _ _ => rfl)
    (fun c w G h => (exit1 (enter1 m) c w G h).trans (Pipeline.afterRegion_arr (dat1 (enter1 m) c) (enter1 m c) launch1.win.arr_inj w).symm)
    (fun c d hd => afterRegion_off (dat1 (enter1 m) c) (enter1 m c) d (Finset.mem_sdiff.mp hd).2)

/-- @main as segments. -/
abbrev items (_ : Dev nD) : List (RDat.Seg (pcfgs (F := F)) adm (rdats m) () defs₀ Variants.none noLevels level) :=
  [.host (first m), .region (reg0 m), .region (reg1 m), .host (last m)]

set_option backward.isDefEq.respectTransparency.types false in
set_option maxHeartbeats 1000000 in
/-- The run: @main terminates, and every buffer outside the kernels' scope ends at `atEnd`, every counter at zero. -/
theorem run_main : θ_run defs (onTc (τ := τ) (main (F := F))) ⟨m, fun _ => 0, ρ⟩ (fun r => (∀ (c : Dev nD), ∀ b ∈ Pipeline.ucRefs τ sig,
      r.2.mem (c, b) = atEnd m c b) ∧ r.2.sem = fun _ => 0) := by
  refine RDat.θ_run_regions_kit_dev_sems (pcfgs (F := F)) adm (rdats m) () cellOf_inj emb₁ defs₀ Variants.none noLevels level m ρ main
    (items m)
    (fun c Q => by
      rewrite [main_chain c, RDat.Seg.run_eq_chain,
        show (items m c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (atEnd m c))
    (hch := fun c => And.intro .rfl (And.intro .rfl (And.intro .rfl (And.intro .rfl ?_))))
    (hinit := ?_) (QY := fun c s => ∀ b ∈ Pipeline.ucRefs τ sig, s.mem (c, b) = atEnd m c b)
    (hfin := fun c s' => ?_) (hQ := fun _ h hz => ⟨h, funext fun g => hz g (.inr (regions_no_unscoped g.2))⟩)
  · show iprop(StableHlo.held (c.tc : Thread nD τ) (Pipeline.ucRefs τ sig) (atEnd m c) ∗ rest c) ⊢ (_ : sProp 𝕄)
    iintro ⟨Hh, -, HO⟩
    isplitl [Hh]; · iexact Hh
    iexact HO
  · refine Pipeline.initEach noLevels level fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]
    · iexists _; iexact Hp
    iexists ∅; iexact HO
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    imodintro; iexact Hr

/-! ## The arguments at the end -/

theorem enter0_of (c : Dev nD) (r : Ref sig .tc) (h : r ∉ hostOps0_W) : enter0 m c r = m ((c : Thread nD τ).loc r) :=
  StableHlo.after_of_writes_sub hostOps0 _ hostOps0_writes h
theorem atEnd_of (c : Dev nD) (r : Ref sig .tc) (h : r ∉ hostOps2_W) : atEnd m c r = leave1 m c r :=
  StableHlo.after_of_writes_sub hostOps2 _ hostOps2_writes h
theorem leave1_of (c : Dev nD) (r : Ref sig .tc) (h : ∀ w, r ≠ Pipeline.arrRef cfg1.spec w) : leave1 m c r = enter1 m c r :=
  Pipeline.afterRegion_of_not_arr _ _ h
theorem enter1_of (c : Dev nD) (r : Ref sig .tc) (h : ∀ w, r ≠ Pipeline.arrRef cfg0.spec w) : enter1 m c r = enter0 m c r :=
  Pipeline.afterRegion_of_not_arr _ _ h

theorem atEnd_arg0 (c : Dev nD) : atEnd m c main_arg0 = m ((c : Thread nD τ).loc main_arg0) :=
  (atEnd_of m c main_arg0 (by decide)).trans ((leave1_of m c main_arg0 (by decide)).trans ((enter1_of m c main_arg0 (by decide)).trans (enter0_of m c main_arg0 (by decide))))
theorem atEnd_arg2 (c : Dev nD) : atEnd m c main_arg2 = m ((c : Thread nD τ).loc main_arg2) :=
  (atEnd_of m c main_arg2 (by decide)).trans ((leave1_of m c main_arg2 (by decide)).trans ((enter1_of m c main_arg2 (by decide)).trans (enter0_of m c main_arg2 (by decide))))
theorem atEnd_arg1 (c : Dev nD) : atEnd m c main_arg1 = m ((c : Thread nD τ).loc main_arg1) :=
  (atEnd_of m c main_arg1 (by decide)).trans ((leave1_of m c main_arg1 (by decide)).trans
    ((Pipeline.afterRegion_arr (dat0 (enter0 m) c) (enter0 m c) launch0.win.arr_inj 1).trans
      (((dat0 (enter0 m) c).arrAt_in 1 rfl _).trans ((A0_eq (enter0 m) c 1).trans (enter0_of m c main_arg1 (by decide))))))

theorem uc_mem (b : Ref sig .tc) (h : b.isScoped = false) : (Proc.devRef .tc b : DevRef τ sig) ∈ Pipeline.ucRefs τ sig :=
  Pipeline.devRef_mem_ucRefs h

/-- The frame: the arguments end as launched, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c _ (uc_mem main_arg0 rfl)).trans (atEnd_arg0 m c),
    (h.1 c _ (uc_mem main_arg1 rfl)).trans (atEnd_arg1 m c), (h.1 c _ (uc_mem main_arg2 rfl)).trans (atEnd_arg2 m c)⟩, h.2⟩) (run_main m ρ)

end Cert.Kernel.Gen

end
-- ==== Proof.Blocks.lean ====
module

public import proofs.«01_k».proof.Proof.Gen.KernelIdeal.Skeleton
public import proofs.«01_k».proof.Proof.Gen.KernelIdeal.Regions
public import proofs.«01_k».proof.Proof.Gen.KernelIdeal.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## One 128 by 128 block -/

/-- The lower clipping bound, the float -448. -/
abbrev loBound : F .f32 := Scalar.ofBits .f32 0xC3E00000#32

/-- The codes the body stores for a block of the weight. -/
def codesB (wb : Vec F S128x128 .f32) : Vec F S128x128 .fp8e4m3 := k0_pay7 (k0_pay6 wb) loBound
/-- The dequantised block the body stores. -/
def wqB (wb : Vec F S128x128 .f32) : Vec F S128x128 .bf16 := k0_pay8 (k0_pay5 wb) (k0_pay6 wb) loBound

/-- The lane numbers of a scale row. -/
abbrev lanes : IVec S1x16 32 := iota .tc S1x16 32 [1] iota_S1x16_d1_w32

/-- One step of the scale row: lane `c` takes the block's scale. -/
def rowStep (c : BitVec 32) (acc : FVec F S1x16 .f32) (wb : Vec F S128x128 .f32) : FVec F S1x16 .f32 :=
  select (cmpi .eq lanes (broadcast S1x16 c))
    (broadcastTo S1x16 (shapeCast S1x1 (k0_pay5 wb) shapeCasts_S1x1_S1x1) broadcasts_S1x1_S1x16) acc

/-- The rectangle of block (r, c) in a block row of the weight. -/
abbrev rB (r : Fin 2) (c : Fin 16) : Rect S256x2048 :=
  Rect.unit (s := S256x2048) ![128 * r.val, 128 * c.val] S128x128.size
    (fun a => match a with
      | ⟨0, _⟩ => by have := r.isLt; show 128 * r.val + 128 ≤ 256; omega
      | ⟨1, _⟩ => by have := c.isLt; show 128 * c.val + 128 ≤ 2048; omega)

/-- Block (r, c) of the weight's window. -/
def blkB {φ : EltTy} (x : Vec F S256x2048 φ) (r : Fin 2) (c : Fin 16) : Vec F S128x128 φ := View.ld x (rB r c)

/-- The scale row of block row `r`. -/
def rowB (x : Vec F S256x2048 .f32) (r : Fin 2) : FVec F S1x16 .f32 :=
  rowStep 15#32 (rowStep 14#32 (rowStep 13#32 (rowStep 12#32 (rowStep 11#32 (rowStep 10#32 (rowStep 9#32 (rowStep 8#32 (rowStep 7#32 (rowStep 6#32 (rowStep 5#32 (rowStep 4#32 (rowStep 3#32 (rowStep 2#32 (rowStep 1#32 (rowStep 0#32 k0_pay2 (blkB x r 0)) (blkB x r 1)) (blkB x r 2)) (blkB x r 3)) (blkB x r 4)) (blkB x r 5)) (blkB x r 6)) (blkB x r 7)) (blkB x r 8)) (blkB x r 9)) (blkB x r 10)) (blkB x r 11)) (blkB x r 12)) (blkB x r 13)) (blkB x r 14)) (blkB x r 15)

/-- A function of blocks applied to every block of the window. -/
def tiles {φ : EltTy} (f : Vec F S128x128 .f32 → Vec F S128x128 φ) (x : Vec F S256x2048 .f32) : Vec F S256x2048 φ := fun y =>
  f (blkB x ⟨(y 0).val / 128, by have h : (y 0).val < 256 := (y 0).isLt; omega⟩
      ⟨(y 1).val / 128, by have h : (y 1).val < 2048 := (y 1).isLt; omega⟩)
    (ValueIdx.ix2 ⟨(y 0).val % 128, Nat.mod_lt _ (by decide)⟩ ⟨(y 1).val % 128, Nat.mod_lt _ (by decide)⟩)

/-- The blocks in the order the stores' pieces are listed (last first). -/
abbrev order : List (Fin 2 × Fin 16) := [(1, 15), (1, 14), (1, 13), (1, 12), (1, 11), (1, 10), (1, 9), (1, 8), (1, 7), (1, 6), (1, 5), (1, 4), (1, 3), (1, 2), (1, 1), (1, 0), (0, 15), (0, 14), (0, 13), (0, 12), (0, 11), (0, 10), (0, 9), (0, 8), (0, 7), (0, 6), (0, 5), (0, 4), (0, 3), (0, 2), (0, 1), (0, 0)]

/-- The pieces of a tilewise store. -/
abbrev tilePieces {φ : EltTy} (f : Vec F S128x128 .f32 → Vec F S128x128 φ) (x : Vec F S256x2048 .f32) :
    List (View.Piece (Elt F) S256x2048 φ) := order.map fun p => ⟨rB p.1 p.2, f (blkB x p.1 p.2)⟩

theorem order_mem : ∀ p : Fin 2 × Fin 16, p ∈ order := by decide

/-- A buffer after the tilewise stores reads `tiles`. -/
theorem read_tilePieces {φ : EltTy} {σ : RefSig} {k : Kind} {sp : Space} (v : View σ k sp S256x2048 φ) (fz : v.ty.Contents (Elt F))
    (f : Vec F S128x128 .f32 → Vec F S128x128 φ) (x : Vec F S256x2048 .f32) :
    v.read (Elt F) (v.writes (Elt F) fz (tilePieces f x)) = tiles f x := by
  funext y
  have h0 : (y 0).val < 256 := (y 0).isLt
  have h1 : (y 1).val < 2048 := (y 1).isLt
  refine View.read_writes_apply_of_pieces v fz (tiles f x) _ ?_ y ?_
  · intro p hp z
    obtain ⟨q, -, rfl⟩ := List.mem_map.mp hp
    obtain ⟨r, c⟩ := q
    have z0 : (z 0).val < 128 := (z 0).isLt
    have z1 : (z 1).val < 128 := (z 1).isLt
    have e0 : (((rB r c).emb z) 0).val = 128 * r.val + 1 * (z 0).val := rfl
    have e1 : (((rB r c).emb z) 1).val = 128 * c.val + 1 * (z 1).val := rfl
    unfold tiles
    show f (blkB x r c) z = _
    have hr : (⟨(((rB r c).emb z) 0).val / 128, by rw [e0]; have := r.isLt; omega⟩ : Fin 2) = r := Fin.ext (by show _ / 128 = _; rw [e0]; omega)
    have hc : (⟨(((rB r c).emb z) 1).val / 128, by rw [e1]; have := c.isLt; omega⟩ : Fin 16) = c := Fin.ext (by show _ / 128 = _; rw [e1]; omega)
    rw [hr, hc]
    congr 1
    refine funext fun a => Fin.ext ?_
    match a with
    | ⟨0, _⟩ => show (z 0).val = (((rB r c).emb z) 0).val % 128; rw [e0]; omega
    | ⟨1, _⟩ => show (z 1).val = (((rB r c).emb z) 1).val % 128; rw [e1]; omega
  · let r : Fin 2 := ⟨(y 0).val / 128, by omega⟩
    let c : Fin 16 := ⟨(y 1).val / 128, by omega⟩
    refine ⟨⟨rB r c, f (blkB x r c)⟩, List.mem_map.mpr ⟨(r, c), order_mem (r, c), rfl⟩, ?_⟩
    show y ∈ (rB r c).set
    rw [Rect.mem_set_unit]
    intro a
    match a with
    | ⟨0, _⟩ => show 128 * ((y 0).val / 128) ≤ (y 0).val ∧ (y 0).val < 128 * ((y 0).val / 128) + 128; omega
    | ⟨1, _⟩ => show 128 * ((y 1).val / 128) ≤ (y 1).val ∧ (y 1).val < 128 * ((y 1).val / 128) + 128; omega

/-- A store through the whole of a buffer leaves its payload, -/
theorem read_whole_store {S : Shape} {φ : EltTy} {σ : RefSig} {k : Kind} {sp : Space} (v : View σ k sp S φ) (fz : v.ty.Contents (Elt F))
    (off : Fin S.rank → Nat) (h : ∀ a, off a = 0) (inb : ∀ a, off a + S.size a ≤ S.size a) (w : Vec F S φ) :
    v.read (Elt F) (v.writes (Elt F) fz [⟨Rect.unit off S.size inb, w⟩]) = w :=
  funext fun y => View.read_writes_cons_hit_of_coords v fz (Rect.unit off S.size inb) w [] y y fun a => by
    show (y a).val = off a + 1 * (y a).val; rw [h]; omega

/-- and a load through it reads what the buffer holds. -/
theorem readAt_whole {S : Shape} {φ : EltTy} {σ : RefSig} {k : Kind} {sp : Space} (v : View σ k sp S φ) (fz : v.ty.Contents (Elt F))
    (off : Fin S.rank → Nat) (h : ∀ a, off a = 0) (inb : ∀ a, off a + S.size a ≤ S.size a) :
    v.readAt (Elt F) (Rect.unit off S.size inb).toLoadRect fz = v.read (Elt F) fz := by
  funext y
  show v.read (Elt F) fz ((Rect.unit off S.size inb).idx y) = _
  congr 1
  refine funext fun a => Fin.ext ?_
  show off a + 1 * (y a).val = (y a).val
  rw [h]; omega

/-- The scale window after the body at point `i`: rows 2i and 2i+1 take the two scale rows. -/
def rowsPut (i : ℕ) (x : Vec F S256x2048 .f32) (X : Vec F S64x16 .f32) : Vec F S64x16 .f32 := fun y =>
  if (y 0).val = i * 2 + 1 then rowB x 1 (ValueIdx.ix2 0 (y 1))
  else if (y 0).val = i * 2 then rowB x 0 (ValueIdx.ix2 0 (y 1)) else X y

theorem off_row_word : ∀ (n : Fin 32) (r : Fin 2),
    (Scalar.indexCast (Scalar.addi (Scalar.muli (BitVec.ofNat 32 n.val) 2#32) (BitVec.ofNat 32 r.val)) : Index).toNat = n.val * 2 + r.val := by decide

theorem off_row (i : grid0.Coords) (r : Fin 2) : k0_off1 i (BitVec.ofNat 32 r.val) = ![(i 0).val * 2 + r.val, 0] := by
  have h : (i 0).val < 32 := (i 0).isLt
  have hr := r.isLt
  unfold k0_off1
  funext a
  match a with
  | ⟨0, _⟩ => exact off_row_word (i 0) r
  | ⟨1, _⟩ => rfl

theorem read_rows {σ : RefSig} {k : Kind} {sp : Space} (v : View σ k sp S64x16 .f32) (fz : v.ty.Contents (Elt F)) (i : grid0.Coords)
    (x : Vec F S256x2048 .f32) :
    v.read (Elt F) (v.writes (Elt F) fz [⟨Rect.unit (s := S64x16) (k0_off1 i 1#32) S1x16.size (k0_off1_inb i 1), rowB x 1⟩,
      ⟨Rect.unit (s := S64x16) (k0_off1 i 0#32) S1x16.size (k0_off1_inb i 0), rowB x 0⟩]) = rowsPut (i 0).val x (v.read (Elt F) fz) := by
  have o1 : k0_off1 i 1#32 = ![(i 0).val * 2 + 1, 0] := off_row i 1
  have o0 : k0_off1 i 0#32 = ![(i 0).val * 2, 0] := off_row i 0
  funext y
  unfold rowsPut
  by_cases h1 : (y 0).val = (i 0).val * 2 + 1
  · rw [if_pos h1]
    refine View.read_writes_cons_hit_of_coords v fz (Rect.unit (s := S64x16) (k0_off1 i 1#32) S1x16.size (k0_off1_inb i 1)) (rowB x 1) _ (ValueIdx.ix2 0 (y 1)) y fun a => ?_
    match a with
    | ⟨0, _⟩ => show (y 0).val = k0_off1 i 1#32 0 + 1 * 0; rw [o1]; exact h1
    | ⟨1, _⟩ => show (y 1).val = k0_off1 i 1#32 1 + 1 * (y 1).val; rw [o1]; show _ = 0 + _; omega
  · rw [if_neg h1, View.read_writes_cons_miss_of_axis v fz _ _ y 0 ((i 0).val * 2 + 1) 1 (by show k0_off1 i 1#32 0 = _; rw [o1]; rfl) rfl rfl (by omega)]
    by_cases h0 : (y 0).val = (i 0).val * 2
    · rw [if_pos h0]
      refine View.read_writes_cons_hit_of_coords v fz (Rect.unit (s := S64x16) (k0_off1 i 0#32) S1x16.size (k0_off1_inb i 0)) (rowB x 0) _ (ValueIdx.ix2 0 (y 1)) y fun a => ?_
      match a with
      | ⟨0, _⟩ => show (y 0).val = k0_off1 i 0#32 0 + 1 * 0; rw [o0]; exact h0
      | ⟨1, _⟩ => show (y 1).val = k0_off1 i 0#32 1 + 1 * (y 1).val; rw [o0]; show _ = 0 + _; omega
    · rw [if_neg h0, View.read_writes_cons_miss_of_axis v fz _ _ y 0 ((i 0).val * 2) 1 (by show k0_off1 i 0#32 0 = _; rw [o0]; rfl) rfl rfl (by omega)]
      rfl

end Cert.KernelIdeal.Gen

end
-- ==== Proof.Backward.lean ====
module

public import proofs.«01_k».proof.Proof.Blocks
public import proofs.«01_k».proof.Proof.Gen.KernelIdeal.Skeleton
public import proofs.«01_k».proof.Proof.Gen.KernelIdeal.Regions
public import proofs.«01_k».proof.Proof.Gen.KernelIdeal.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The backward body, from the windows' blocks to what it leaves in each. -/
theorem sound_backward (c : Dev nD) (E : Set ℕ) (i : grid0.Coords) (arg1 : Memref sig .tc .vmem S6144x256 .bf16) (harg1 : arg1.IsWhole) (arg2 : Memref sig .tc .vmem S256x2048 .f32) (harg2 : arg2.IsWhole) (arg3 : Memref sig .tc .vmem S6144x2048 .bf16) (harg3 : arg3.IsWhole) (arg4 : Memref sig .tc .vmem S6144x256 .bf16) (harg4 : arg4.IsWhole) (arg5 : Memref sig .tc .vmem S256x2048 .f32) (harg5 : arg5.IsWhole) (arg6 : Memref sig .tc .vmem S256x2048 .fp8e4m3) (harg6 : arg6.IsWhole)
    (arg7 : Memref sig .tc .vmem S64x16 .f32) (harg7 : arg7.IsWhole) (arg8 : Memref sig .tc .vmem S256x2048 .bf16) (harg8 : arg8.IsWhole)
    (x0 : Vec F S6144x256 .bf16) (x1 : Vec F S256x2048 .f32) (x2 : Vec F S6144x2048 .bf16) (x6 : Vec F S64x16 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d) ∗ (∃ d, owns (c : Thread nD τ) arg5 fullShare d) ∗ (∃ d, owns (c : Thread nD τ) arg6 fullShare d)
        ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2
           ∗ owns (c : Thread nD τ) arg4 fullShare (k0_pay237 x2 (tiles wqB x1)) ∗ owns (c : Thread nD τ) arg5 fullShare (k0_pay1 x0 x2)
           ∗ owns (c : Thread nD τ) arg6 fullShare (tiles codesB x1) ∗ owns (c : Thread nD τ) arg7 fullShare (rowsPut (i 0).val x1 x6)
           ∗ owns (c : Thread nD τ) arg8 fullShare (tiles wqB x1)) -∗ K ⟨⟩))
      ⊢ wp frame (wpE (defs₀ (F := F)) Variants.none c none) E (cc0_backward i arg1 harg1 arg2 harg2 arg3 harg3 arg4 harg4 arg5 harg5 arg6 harg6 arg7 harg7 arg8 harg8) K := by
  simp only [cc0_backward_eq_skeleton]; unfold cc0_backward_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton]
  unfold owns
  iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%d7, %f7, -, H7⟩, Hk⟩
  subst hf0 hf1 hf2 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    refine (read_whole_store arg4.view f3 ![0, 0] (by decide) inb_S6144x256_S6144x256_0_0 _).trans ?_
    have e2 := readAt_whole arg3.view f2 ![0, 0] (by decide) inb_S6144x2048_S6144x2048_0_0
    have e8 : sound_backward.sl.v1773 c arg2 arg8 f1 = tiles wqB (arg2.view.read (Elt F) f1) :=
      (readAt_whole arg8.view (arg8.view.writes (Elt F) arg8.view.junk (tilePieces wqB (arg2.view.read (Elt F) f1))) ![0, 0] (by decide)
        inb_S256x2048_S256x2048_0_0).trans (read_tilePieces arg8.view _ wqB (arg2.view.read (Elt F) f1))
    rw [e8]
    exact congrArg (fun z => k0_pay237 z _) e2
  isplitl [H4]
  · iexists _; isplitr
    swap; · iexact H4
    ipureintro
    refine (read_whole_store arg5.view f4 ![0, 0] (by decide) inb_S256x2048_S256x2048_0_0 _).trans ?_
    exact congrArg₂ k0_pay1 (readAt_whole arg1.view f0 ![0, 0] (by decide) inb_S6144x256_S6144x256_0_0)
      (readAt_whole arg3.view f2 ![0, 0] (by decide) inb_S6144x2048_S6144x2048_0_0)
  isplitl [H5]
  · iexists _; isplitr
    swap; · iexact H5
    ipureintro
    exact read_tilePieces arg6.view f5 codesB (arg2.view.read (Elt F) f1)
  isplitl [H6]
  · iexists _; isplitr
    swap; · iexact H6
    ipureintro
    exact read_rows arg7.view f6 i (arg2.view.read (Elt F) f1)
  iexists _; isplitr
  swap; · iexact H7
  ipureintro
  exact read_tilePieces arg8.view f7 wqB (arg2.view.read (Elt F) f1)

end Cert.KernelIdeal.Gen

end
-- ==== Proof.Forward.lean ====
module

public import proofs.«01_k».proof.Proof.Blocks
public import proofs.«01_k».proof.Proof.Gen.KernelIdeal.Skeleton
public import proofs.«01_k».proof.Proof.Gen.KernelIdeal.Regions
public import proofs.«01_k».proof.Proof.Gen.KernelIdeal.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The forward body, from the windows' blocks to the product it leaves in the output window. -/
theorem sound_forward (c : Dev nD) (E : Set ℕ) (i : grid1.Coords) (arg1 : Memref sig .tc .vmem S512x8192 .bf16) (harg1 : arg1.IsWhole) (arg2 : Memref sig .tc .vmem S8192x2048 .bf16) (harg2 : arg2.IsWhole) (arg3 : Memref sig .tc .vmem S512x2048 .bf16) (harg3 : arg3.IsWhole)
    (x0 : Vec F S512x8192 .bf16) (x1 : Vec F S8192x2048 .bf16) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (k1_pay1 x0 x1)) -∗ K ⟨⟩))
      ⊢ wp frame (wpE (defs₀ (F := F)) Variants.none c none) E (cc1_forward i arg1 harg1 arg2 harg2 arg3 harg3) K := by
  simp only [cc1_forward_eq_skeleton]; unfold cc1_forward_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (read_whole_store arg3.view f2 ![0, 0] (by decide) inb_S512x2048_S512x2048_0_0 _).trans ?_
  exact congrArg₂ k1_pay1 (readAt_whole arg1.view f0 ![0, 0] (by decide) inb_S512x8192_S512x8192_0_0)
    (readAt_whole arg2.view f1 ![0, 0] (by decide) inb_S8192x2048_S8192x2048_0_0)

end Cert.KernelIdeal.Gen

end
-- ==== Proof.Data.lean ====
module

public import proofs.«01_k».proof.Proof.Backward
public import proofs.«01_k».proof.Proof.Forward
public import Idealize.ShloMosaic.Lib.Pipeline.DatRel
public import Idealize.ShloMosaic.Lib.Pipeline.ArrRel
public import Idealize.ShloMosaic.Lib.Pipeline.Cells
public import proofs.«01_k».proof.Proof.Gen.KernelIdeal.Skeleton
public import proofs.«01_k».proof.Proof.Gen.KernelIdeal.Regions
public import proofs.«01_k».proof.Proof.Gen.KernelIdeal.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

/-- The contents of the buffers outside the kernels' scope when a region is entered, per core. -/
abbrev Entry (F : FTy → Type) : Type := Dev nD → Valuation τ sig (Elt F)

variable (V : Entry F)

/-- Region 0's window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Proc.devRef .tc (Pipeline.arrRef spec0 w)))

theorem before0_0_of {c : Dev nD} (dat : Dat τ (Elt F) Unit ℕ (UR sig nD τ) ℕ cfg0 c) (hA : dat.A 0 = V c (Proc.devRef .tc (Pipeline.arrRef spec0 0)))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Proc.devRef .tc (Pipeline.arrRef spec0 1)))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Proc.devRef .tc (Pipeline.arrRef spec0 2)))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- The whole scale matrix: row 2t+r is scale row r of the weight block at point t. -/
def scaleMat (c : Dev nD) : Vec F S64x16 .f32 := fun y =>
  rowB (iblk0 V c 1 ⟨(y 0).val / 2, by have h : (y 0).val < 64 := (y 0).isLt; rw [show cfg0.N = 32 from N_0]; omega⟩)
    ⟨(y 0).val % 2, Nat.mod_lt _ (by decide)⟩ (ValueIdx.ix2 0 (y 1))

/-- Region 0's proof data: the arrays as the region finds them, and what each window's buffer holds after the body. -/
def dat0 (c : Dev nD) : Dat τ (Elt F) Unit ℕ (UR sig nD τ) ℕ cfg0 c where
  A w := V c (Proc.devRef .tc (Pipeline.arrRef spec0 w))
  after w t := match w with
    | ⟨0, _⟩ => iblk0 V c 0 t
    | ⟨1, _⟩ => iblk0 V c 1 t
    | ⟨2, _⟩ => iblk0 V c 2 t
    | ⟨3, _⟩ => k0_pay237 (iblk0 V c 2 t) (tiles wqB (iblk0 V c 1 t))
    | ⟨4, _⟩ => k0_pay1 (iblk0 V c 0 t) (iblk0 V c 2 t)
    | ⟨5, _⟩ => tiles codesB (iblk0 V c 1 t)
    | ⟨6, _⟩ => scaleMat V c
    | ⟨7, _⟩ => tiles wqB (iblk0 V c 1 t)
  Φ _ := Pipeline.ΦA spec0 c
  q _ := fullShare
  owed _ := 0

theorem A0_eq (c : Dev nD) (w : Fin cfg0.W) : (dat0 V c).A w = V c (Proc.devRef .tc (Pipeline.arrRef spec0 w)) := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = k0_pay237 (iblk0 V c 2 t) (tiles wqB (iblk0 V c 1 t)) := by dsimp only [dat0]
theorem after0_4 (c : Dev nD) (t : Fin cfg0.N) : (dat0 V c).after 4 t = k0_pay1 (iblk0 V c 0 t) (iblk0 V c 2 t) := by dsimp only [dat0]
theorem after0_5 (c : Dev nD) (t : Fin cfg0.N) : (dat0 V c).after 5 t = tiles codesB (iblk0 V c 1 t) := by dsimp only [dat0]
theorem after0_6 (c : Dev nD) (t : Fin cfg0.N) : (dat0 V c).after 6 t = scaleMat V c := by dsimp only [dat0]
theorem after0_7 (c : Dev nD) (t : Fin cfg0.N) : (dat0 V c).after 7 t = tiles wqB (iblk0 V c 1 t) := by dsimp only [dat0]
theorem before0_0 (c : Dev nD) (t : Fin cfg0.N) (d) : (dat0 V c).before 0 t d = iblk0 V c 0 t := before0_0_of V (dat0 V c) (A0_eq V c 0) (after0_0 V c) t d
theorem before0_1 (c : Dev nD) (t : Fin cfg0.N) (d) : (dat0 V c).before 1 t d = iblk0 V c 1 t := before0_1_of V (dat0 V c) (A0_eq V c 1) (after0_1 V c) t d
theorem before0_2 (c : Dev nD) (t : Fin cfg0.N) (d) : (dat0 V c).before 2 t d = iblk0 V c 2 t := before0_2_of V (dat0 V c) (A0_eq V c 2) (after0_2 V c) t d

/-- The one window held to a relation: the scale matrix, filled two rows at a point. -/
def fgt0 : Fin cfg0.W → Bool := fun | ⟨6, _⟩ => true | _ => false
/-- After point `t` the rows below 2(t+1) are those of the scale matrix. -/
def Rl0 (c : Dev nD) : (w : Fin cfg0.W) → Fin cfg0.N → ((cfg0.win w).block.Idx → Elt F (cfg0.win w).elt) → Prop
  | ⟨6, _⟩, t, X => ∀ y : S64x16.Idx, (y 0).val < 2 * (t.val + 1) → X y = scaleMat V c y
  | _, _, _ => True

/-- Region 0's data with the scale window held to the relation. -/
def rdat0 (c : Dev nD) : RDat τ (Elt F) Unit ℕ (UR sig nD τ) ℕ cfg0 c := (dat0 V c).toRRel fgt0 (Rl0 V c)

theorem coords0 : ∀ t : Fin cfg0.N, (grid0.coords t 0).val = t.val := by decide

theorem fetch0_6 (t : Fin cfg0.N) : (cfg0.win 6).fetch t = false := rfl

/-- What the scale window may hold before point `t`: the rows already filled. -/
theorem finds6 (c : Dev nD) (t : Fin cfg0.N) (X : Vec F S64x16 .f32) (h : ((dat0 V c).toRRel fgt0 (Rl0 V c)).Finds 6 t X) :
    ∀ y : S64x16.Idx, (y 0).val < 2 * t.val → X y = scaleMat V c y := by
  intro y hy
  have ht : t.val ≠ 0 := by omega
  rcases (RDat.finds_of_pos _ (fetch0_6 t) ht X).mp h with hf | hl
  · exfalso
    have h1 := (flush0_6 _).mp hf
    have h2 : t.val < 32 := lt_of_lt_of_eq t.isLt N_0
    dsimp only at h1; omega
  · have h3 := (dat0 V c).toRRel_leaves (fgt := fgt0) (Rl := Rl0 V c) (w := 6) rfl hl
    exact (show ∀ y : S64x16.Idx, (y 0).val < 2 * (t.val - 1 + 1) → X y = scaleMat V c y from h3) y (by omega)

/-- Two more rows. -/
theorem rows_step (c : Dev nD) (t : Fin cfg0.N) (X : Vec F S64x16 .f32) (h : ∀ y : S64x16.Idx, (y 0).val < 2 * t.val → X y = scaleMat V c y) :
    ∀ y : S64x16.Idx, (y 0).val < 2 * (t.val + 1) → rowsPut (grid0.coords t 0).val (iblk0 V c 1 t) X y = scaleMat V c y := by
  intro y hy
  unfold rowsPut
  rw [coords0]
  have key : ∀ (r : Fin 2), (y 0).val = t.val * 2 + r.val → rowB (iblk0 V c 1 t) r (ValueIdx.ix2 0 (y 1)) = scaleMat V c y := by
    intro r hr
    unfold scaleMat
    have h2 : r.val < 2 := r.isLt
    congr 2
    · congr 1; exact Fin.ext (by show t.val = (y 0).val / 2; omega)
    · exact Fin.ext (by show r.val = (y 0).val % 2; omega)
  by_cases h1 : (y 0).val = t.val * 2 + 1
  · rw [if_pos h1]; exact key 1 h1
  rw [if_neg h1]
  by_cases h0 : (y 0).val = t.val * 2
  · rw [if_pos h0]; exact key 0 h0
  rw [if_neg h0]; exact h y (by omega)

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ Y, ⌜((dat0 V c).toRRel fgt0 (Rl0 V c)).Finds 6 t Y⌝ ∗ owns (c : Thread nD τ) (st0_6 t) fullShare Y)
    ∗ (∃ d, owns (c : Thread nD τ) (st0_7 t) fullShare ((dat0 V c).before 7 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (∃ X, ⌜Rl0 V c 6 t X⌝ ∗ owns (c : Thread nD τ) (st0_6 t) fullShare X)
    ∗ owns (c : Thread nD τ) (st0_7 t) fullShare ((dat0 V c).after 7 t))

/-- Region 0's body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_7]
  iintro ⟨HΦ, Ho, ⟨%d0, H0⟩, ⟨%d1, H1⟩, ⟨%d2, H2⟩, ⟨%d3, H3⟩, ⟨%d4, H4⟩, ⟨%d5, H5⟩, ⟨%d6, %h6, H6⟩, ⟨%d7, H7⟩⟩
  iapply (sound_backward c Set.univ (grid0.coords t) _ _ _ _ _ _ _ _ _ _ _ _ _ _ _ _ (iblk0 V c 0 t) (iblk0 V c 1 t) (iblk0 V c 2 t) d6 _)
  isplitl [H0]; · iexact H0
  isplitl [H1]; · iexact H1
  isplitl [H2]; · iexact H2
  isplitl [H3]; · iexists _; iexact H3
  isplitl [H4]; · iexists _; iexact H4
  isplitl [H5]; · iexists _; iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr
    swap; · iexact H6
    ipureintro; exact rows_step V c t d6 (finds6 V c t d6 h6)
  iexact H7

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : (rdat0 V c).BodyObligation (defs₀ (F := F)) Variants.none () Set.univ :=
  BodyObligationRel.toRRel _ (show BodyObligationRel (dat0 V c) (defs₀ (F := F)) Variants.none () Set.univ fgt0 (Rl0 V c) from fun t => by
    rw [bigSep_W0, bigSep_W0, defs₀_row0]
    exact triple_restated (sound_body0 V c t) rfl .rfl fun _ => .rfl)

/-- What each array may hold after region 0 is what the exact data name. -/
theorem exit0 (c : Dev nD) (w : Fin cfg0.W) (G : Buf (Elt F) ((cfg0.win w).arr.view.loc (c.tc : Thread nD τ)))
    (h : (rdat0 V c).ArrAt w cfg0.N G) : G = (dat0 V c).arrAt w cfg0.N := by
  by_cases hw : fgt0 w = true
  · obtain rfl : w = 6 := (show ∀ w : Fin 8, fgt0 w = true → w = 6 by decide) w hw
    obtain ⟨X, hX, hA⟩ := h.exists_exact
    refine hA (dat0 V c).after fun u hu hf => ?_
    have h3 := (dat0 V c).toRRel_leaves (fgt := fgt0) (Rl := Rl0 V c) (w := 6) rfl (hX u hu hf)
    have h4 : u.val = 31 := by
      have h1 := (flush0_6 _).mp hf
      have h2 : u.val < 32 := lt_of_lt_of_eq u.isLt N_0
      omega
    rw [after0_6]
    funext y
    refine ((show ∀ y : S64x16.Idx, (y 0).val < 2 * (u.val + 1) → X u y = scaleMat V c y from h3) y ?_).symm
    have h5 : (y 0).val < 64 := (y 0).isLt
    omega
  · refine (dat0 V c).toR_arrAt w _ G ?_
    exact (RDat.override_arrAt (rd := (dat0 V c).toR) (by simp only [Bool.eq_false_iff.mpr hw]) _ G).mp h

/-- Region 1's window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

theorem before1_0_of {c : Dev nD} (dat : Dat τ (Elt F) Unit ℕ (UR sig nD τ) ℕ cfg1 c) (hA : dat.A 0 = V c (Proc.devRef .tc (Pipeline.arrRef spec1 0)))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Proc.devRef .tc (Pipeline.arrRef spec1 1)))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Region 1's proof data: the arrays as the region finds them, and what each window's buffer holds after the body. -/
def dat1 (c : Dev nD) : Dat τ (Elt F) Unit ℕ (UR sig nD τ) ℕ cfg1 c where
  A w := V c (Proc.devRef .tc (Pipeline.arrRef spec1 w))
  after w t := match w with
    | ⟨0, _⟩ => iblk1 V c 0 t
    | ⟨1, _⟩ => iblk1 V c 1 t
    | ⟨2, _⟩ => k1_pay1 (iblk1 V c 0 t) (iblk1 V c 1 t)
  Φ _ := Pipeline.ΦA spec1 c
  q _ := fullShare
  owed _ := 0

theorem A1_eq (c : Dev nD) (w : Fin cfg1.W) : (dat1 V c).A w = V c (Proc.devRef .tc (Pipeline.arrRef spec1 w)) := by dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (iblk1 V c 0 t) (iblk1 V c 1 t) := by dsimp only [dat1]
theorem before1_0 (c : Dev nD) (t : Fin cfg1.N) (d) : (dat1 V c).before 0 t d = iblk1 V c 0 t := before1_0_of V (dat1 V c) (A1_eq V c 0) (after1_0 V c) t d
theorem before1_1 (c : Dev nD) (t : Fin cfg1.N) (d) : (dat1 V c).before 1 t d = iblk1 V c 1 t := before1_1_of V (dat1 V c) (A1_eq V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- Region 1's body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_forward c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem defs₀_row1 (t : Fin cfg1.N) :
    defs₀ (F := F) .tc cfg1.body (cfg1.bodyArgs t (cfg1.slots t)) = bodyAt1 t := by
  unfold defs₀; rw [Defs.onTc_tc]

/-- Region 1's data, exact. -/
def rdat1 (c : Dev nD) : RDat τ (Elt F) Unit ℕ (UR sig nD τ) ℕ cfg1 c := (dat1 V c).toR

theorem body_obligation1 (c : Dev nD) : (rdat1 V c).BodyObligation (defs₀ (F := F)) Variants.none () Set.univ :=
  (show BodyObligation (dat1 V c) (defs₀ (F := F)) Variants.none () Set.univ from fun t => by
    rw [bigSep_W1, bigSep_W1, defs₀_row1]
    exact triple_restated (sound_body1 V c t) rfl .rfl fun _ => .rfl).loose.toR

theorem exit1 (c : Dev nD) (w : Fin cfg1.W) (G : Buf (Elt F) ((cfg1.win w).arr.view.loc (c.tc : Thread nD τ)))
    (h : (rdat1 V c).ArrAt w cfg1.N G) : G = (dat1 V c).arrAt w cfg1.N := (dat1 V c).toR_arrAt w _ G h

end Cert.KernelIdeal.Gen

end
-- ==== Proof.Run.lean ====
module

public import proofs.«01_k».proof.Proof.Data
public import proofs.«01_k».proof.Proof.RegionExact
public import Idealize.ShloMosaic.Lib.Pipeline.FrameTail
public import Idealize.ShloMosaic.Lib.Pipeline.DatRel
public import Idealize.ShloMosaic.Lib.Pipeline.ArrRel
public import Idealize.ShloMosaic.Lib.Pipeline.Cells
public import proofs.«01_k».proof.Proof.Gen.KernelIdeal.Skeleton
public import proofs.«01_k».proof.Proof.Gen.KernelIdeal.Regions
public import proofs.«01_k».proof.Proof.Gen.KernelIdeal.Points
public import Idealize.ShloMosaic.Lib.Tactic
public import Idealize.ShloMosaic.Lib.WordCmp
public import Idealize.ShloMosaic.Lib.Pipeline.FrameBody
public import Idealize.ShloMosaic.Lib.Pipeline.FrameValue
public import Idealize.ShloMosaic.Lib.Writes
public import Idealize.ShloMosaic.Lib.ValueIdx

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The contents when region 0 is entered: the launch contents after the two input reshapes. -/
def enter0 : Entry F := fun c => StableHlo.after hostOps0 (V0 m c)
/-- The contents when region 1 is entered: what region 0 leaves. -/
def enter1 : Entry F := fun c => Pipeline.afterRegion (dat0 (enter0 m) c) (enter0 m c)
/-- The contents when region 1 is left. -/
def leave1 : Entry F := fun c => Pipeline.afterRegion (dat1 (enter1 m) c) (enter1 m c)
/-- The contents at the end, after the two output reshapes. -/
def atEnd : Entry F := fun c => StableHlo.after hostOps2 (leave1 m c)

/-- Both regions' proof data. -/
def rdats : (p : Fin 2) → (c : Dev nD) → RDat τ (Elt F) Unit ℕ (UR sig nD τ) ℕ (Pipeline.pin (pcfgs (F := F)) adm p) c
  | ⟨0, _⟩ => rdat0 (enter0 m)
  | ⟨1, _⟩ => rdat1 (enter1 m)

abbrev noLevels : GSem nD τ sig → Finset Unit := fun _ => ∅
abbrev level : GSem nD τ sig → Unit → ℕ := fun _ _ => 0

/-- What rides along between the items: the generator register at some state, nothing owed. -/
abbrev rest (c : Dev nD) : sProp 𝕄 := iprop((∃ r, prngReg c r) ∗ ∃ Wd, owes (c.tc : Thread nD τ) (0 : CellTallies nD τ sig Unit) Wd)

def first : Pipeline.HostSeg (Ix := Unit) (Name := ℕ) (U := UR sig nD τ) (Lvl := ℕ) (pcfgs (F := F)) defs₀ Variants.none noLevels level :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) rest
def last : Pipeline.HostSeg (Ix := Unit) (Name := ℕ) (U := UR sig nD τ) (Lvl := ℕ) (pcfgs (F := F)) defs₀ Variants.none noLevels level :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (leave1 m) rest

/-- Off a region's arrays nothing changes. -/
theorem afterRegion_off {Λ : Idealize.SL.Sem.Labels} {cfg : Cfg sig Λ} {c : Dev nD} (dat : Dat τ (Elt F) Unit ℕ (UR sig nD τ) ℕ cfg c)
    (W : Valuation τ sig (Elt F)) (d : DevRef τ sig) (h : d ∉ Pipeline.arrRefs (τ := τ) cfg.spec) : Pipeline.afterRegion dat W d = W d := by
  unfold Pipeline.afterRegion
  rw [dif_neg]
  rintro ⟨w, rfl⟩
  exact h (Finset.mem_map.mpr ⟨_, Finset.mem_image.mpr ⟨w, Finset.mem_univ _, rfl⟩, rfl⟩)

theorem unscoped0 : ∀ w : Fin 8, (Pipeline.arrRef cfg0.spec w).isScoped = false := by decide
theorem unscoped1 : ∀ w : Fin 3, (Pipeline.arrRef cfg1.spec w).isScoped = false := by decide

set_option backward.isDefEq.respectTransparency.types false in
def reg0 : RDat.RegionSeg (pcfgs (F := F)) adm (rdats m) () defs₀ Variants.none noLevels level 0 :=
  Cert.RegionExact.region (pcfgs (F := F)) adm (rdats m) defs₀ Variants.none noLevels level 0 launch0.toP rfl
    (body_obligation0 (enter0 m)) (fun _ _ => rfl) (fun _ => rfl) (fun c => (dat0 (enter0 m) c).share_full fun _ => rfl) (fun _ _ => rfl)
    (Pipeline.ucRefs τ sig) (Pipeline.arrRefs_sub_ucRefs _ unscoped0) (enter0 m) (enter1 m) (fun _ _ => rfl)
    (fun c w G h => (exit0 (enter0 m) c w G h).trans (Pipeline.afterRegion_arr (dat0 (enter0 m) c) (enter0 m c) launch0.win.arr_inj w).symm)
    (fun c d hd => afterRegion_off (dat0 (enter0 m) c) (enter0 m c) d (Finset.mem_sdiff.mp hd).2)

set_option backward.isDefEq.respectTransparency.types false in
def reg1 : RDat.RegionSeg (pcfgs (F := F)) adm (rdats m) () defs₀ Variants.none noLevels level 1 :=
  Cert.RegionExact.region (pcfgs (F := F)) adm (rdats m) defs₀ Variants.none noLevels level 1 launch1.toP rfl
    (body_obligation1 (enter1 m)) (fun _ _ => rfl) (fun _ => rfl) (fun c => (dat1 (enter1 m) c).share_full fun _ => rfl) (fun _ _ => rfl)
    (Pipeline.ucRefs τ sig) (Pipeline.arrRefs_sub_ucRefs _ unscoped1) (enter1 m) (leave1 m) (fun _ _ => rfl)
    (fun c w G h => (exit1 (enter1 m) c w G h).trans (Pipeline.afterRegion_arr (dat1 (enter1 m) c) (enter1 m c) launch1.win.arr_inj w).symm)
    (fun c d hd => afterRegion_off (dat1 (enter1 m) c) (enter1 m c) d (Finset.mem_sdiff.mp hd).2)

/-- @main as segments. -/
abbrev items (_ : Dev nD) : List (RDat.Seg (pcfgs (F := F)) adm (rdats m) () defs₀ Variants.none noLevels level) :=
  [.host (first m), .region (reg0 m), .region (reg1 m), .host (last m)]

set_option backward.isDefEq.respectTransparency.types false in
set_option maxHeartbeats 1000000 in
/-- The run: @main terminates, and every buffer outside the kernels' scope ends at `atEnd`, every counter at zero. -/
theorem run_main : θ_run defs (onTc (τ := τ) (main (F := F))) ⟨m, fun _ => 0, ρ⟩ (fun r => (∀ (c : Dev nD), ∀ b ∈ Pipeline.ucRefs τ sig,
      r.2.mem (c, b) = atEnd m c b) ∧ r.2.sem = fun _ => 0) := by
  refine RDat.θ_run_regions_kit_dev_sems (pcfgs (F := F)) adm (rdats m) () cellOf_inj emb₁ defs₀ Variants.none noLevels level m ρ main
    (items m)
    (fun c Q => by
      rewrite [main_chain c, RDat.Seg.run_eq_chain,
        show (items m c).map RDat.Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ rest c))
    (Tₙ := fun c => StableHlo.held (c : Thread nD τ) (Pipeline.ucRefs τ sig) (atEnd m c))
    (hch := fun c => And.intro .rfl (And.intro .rfl (And.intro .rfl (And.intro .rfl ?_))))
    (hinit := ?_) (QY := fun c s => ∀ b ∈ Pipeline.ucRefs τ sig, s.mem (c, b) = atEnd m c b)
    (hfin := fun c s' => ?_) (hQ := fun _ h hz => ⟨h, funext fun g => hz g (.inr (regions_no_unscoped g.2))⟩)
  · show iprop(StableHlo.held (c.tc : Thread nD τ) (Pipeline.ucRefs τ sig) (atEnd m c) ∗ rest c) ⊢ (_ : sProp 𝕄)
    iintro ⟨Hh, -, HO⟩
    isplitl [Hh]; · iexact Hh
    iexact HO
  · refine Pipeline.initEach noLevels level fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
    iintro ⟨⟨Hh, -, HO, -, Hp, -⟩, -⟩
    imodintro
    isplitl [Hh]; · iexact Hh
    isplitl [Hp]
    · iexists _; iexact Hp
    iexists ∅; iexact HO
  · unfold StableHlo.held
    iintro ⟨Hh, HSI⟩
    ihave Hr := (pointsTo_read_all (Pipeline.ucRefs τ sig) (fun b => ((c : Thread nD τ).1, b)) (atEnd m c) s') $$ [Hh HSI]
    · isplitl [Hh] <;> iassumption
    imodintro; iexact Hr

/-! ## The arguments at the end -/

theorem enter0_of (c : Dev nD) (r : Ref sig .tc) (h : r ∉ hostOps0_W) : enter0 m c r = m ((c : Thread nD τ).loc r) :=
  StableHlo.after_of_writes_sub hostOps0 _ hostOps0_writes h
theorem atEnd_of (c : Dev nD) (r : Ref sig .tc) (h : r ∉ hostOps2_W) : atEnd m c r = leave1 m c r :=
  StableHlo.after_of_writes_sub hostOps2 _ hostOps2_writes h
theorem leave1_of (c : Dev nD) (r : Ref sig .tc) (h : ∀ w, r ≠ Pipeline.arrRef cfg1.spec w) : leave1 m c r = enter1 m c r :=
  Pipeline.afterRegion_of_not_arr _ _ h
theorem enter1_of (c : Dev nD) (r : Ref sig .tc) (h : ∀ w, r ≠ Pipeline.arrRef cfg0.spec w) : enter1 m c r = enter0 m c r :=
  Pipeline.afterRegion_of_not_arr _ _ h

theorem atEnd_arg0 (c : Dev nD) : atEnd m c main_arg0 = m ((c : Thread nD τ).loc main_arg0) :=
  (atEnd_of m c main_arg0 (by decide)).trans ((leave1_of m c main_arg0 (by decide)).trans ((enter1_of m c main_arg0 (by decide)).trans (enter0_of m c main_arg0 (by decide))))
theorem atEnd_arg2 (c : Dev nD) : atEnd m c main_arg2 = m ((c : Thread nD τ).loc main_arg2) :=
  (atEnd_of m c main_arg2 (by decide)).trans ((leave1_of m c main_arg2 (by decide)).trans ((enter1_of m c main_arg2 (by decide)).trans (enter0_of m c main_arg2 (by decide))))
theorem atEnd_arg1 (c : Dev nD) : atEnd m c main_arg1 = m ((c : Thread nD τ).loc main_arg1) :=
  (atEnd_of m c main_arg1 (by decide)).trans ((leave1_of m c main_arg1 (by decide)).trans
    ((Pipeline.afterRegion_arr (dat0 (enter0 m) c) (enter0 m c) launch0.win.arr_inj 1).trans
      (((dat0 (enter0 m) c).arrAt_in 1 rfl _).trans ((A0_eq (enter0 m) c 1).trans (enter0_of m c main_arg1 (by decide))))))

theorem uc_mem (b : Ref sig .tc) (h : b.isScoped = false) : (Proc.devRef .tc b : DevRef τ sig) ∈ Pipeline.ucRefs τ sig :=
  Pipeline.devRef_mem_ucRefs h

/-- The frame: the arguments end as launched, and every counter is zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1 c _ (uc_mem main_arg0 rfl)).trans (atEnd_arg0 m c),
    (h.1 c _ (uc_mem main_arg1 rfl)).trans (atEnd_arg1 m c), (h.1 c _ (uc_mem main_arg2 rfl)).trans (atEnd_arg2 m c)⟩, h.2⟩) (run_main m ρ)

end Cert.KernelIdeal.Gen

end
-- ==== Proof.KerEmb.lean ====
module

public import proofs.«01_k».proof.Proof.Run
public import Idealize.ShloMosaic.Lib.Pipeline.Value
public import Idealize.ShloMosaic.Lib.Pointwise

@[expose] public section

set_option maxRecDepth 16384

noncomputable section

namespace Cert.KernelIdeal.Gen

open Idealize.ShloMosaic Idealize.ShloMosaic.TcCoe

/-! Where each window's block sits in its array. -/

theorem idx0_0 : ∀ t : Fin grid0.N, win0_0.index t 0 = 0 ∧ win0_0.index t 1 = t.val := by decide +kernel
theorem idx0_1 : ∀ t : Fin grid0.N, win0_1.index t 0 = t.val ∧ win0_1.index t 1 = 0 := by decide +kernel
theorem idx0_2 : ∀ t : Fin grid0.N, win0_2.index t 0 = 0 ∧ win0_2.index t 1 = 0 := by decide +kernel
theorem idx0_3 : ∀ t : Fin grid0.N, win0_3.index t 0 = 0 ∧ win0_3.index t 1 = t.val := by decide +kernel
theorem idx0_4 : ∀ t : Fin grid0.N, win0_4.index t 0 = t.val ∧ win0_4.index t 1 = 0 := by decide +kernel
theorem idx0_5 : ∀ t : Fin grid0.N, win0_5.index t 0 = t.val ∧ win0_5.index t 1 = 0 := by decide +kernel
theorem idx0_6 : ∀ t : Fin grid0.N, win0_6.index t 0 = 0 ∧ win0_6.index t 1 = 0 := by decide +kernel
theorem idx0_7 : ∀ t : Fin grid0.N, win0_7.index t 0 = t.val ∧ win0_7.index t 1 = 0 := by decide +kernel
theorem idx1_0 : ∀ t : Fin grid1.N, win1_0.index t 0 = t.val ∧ win1_0.index t 1 = 0 := by decide +kernel
theorem idx1_1 : ∀ t : Fin grid1.N, win1_1.index t 0 = 0 ∧ win1_1.index t 1 = 0 := by decide +kernel
theorem idx1_2 : ∀ t : Fin grid1.N, win1_2.index t 0 = t.val ∧ win1_2.index t 1 = 0 := by decide +kernel

theorem lt0 (t : Fin cfg0.N) : t.val < 32 := lt_of_lt_of_eq t.isLt N_0
theorem lt1 (t : Fin cfg1.N) : t.val < 12 := lt_of_lt_of_eq t.isLt N_1

/-- Two indices of a matrix agree when their coordinates do. -/
theorem ext2 {a b : ℕ} {x y : (⟨2, ![a, b]⟩ : Shape).Idx} (h0 : (x 0 : ℕ) = y 0) (h1 : (x 1 : ℕ) = y 1) : x = y :=
  funext fun i => Fin.ext (match i with | ⟨0, _⟩ => h0 | ⟨1, _⟩ => h1)

theorem at_index {x k n b y z : ℕ} (h : x = k * b + y) (hk : k = n) (hz : n * b + y = z) : x = z := by
  rw [h, hk, hz]

theorem zero_tile (b y : ℕ) : 0 * b + y = y := by omega

theorem emb0_0 (t : Fin cfg0.N) (i : Fin 6144) (j : Fin 256) :
    ((cfg0.win 0).blk t).view.emb (ix2 i j) = ix2 i (⟨t.val * 256 + j, by have := lt0 t; omega⟩ : Fin 8192) :=
  ext2 (at_index (win0_0.rect_emb_val t (ix2 i j) 0 rfl) (idx0_0 t).1 (zero_tile _ _))
    (at_index (win0_0.rect_emb_val t (ix2 i j) 1 rfl) (idx0_0 t).2 rfl)

theorem emb0_1 (t : Fin cfg0.N) (i : Fin 256) (j : Fin 2048) :
    ((cfg0.win 1).blk t).view.emb (ix2 i j) = ix2 (⟨t.val * 256 + i, by have := lt0 t; omega⟩ : Fin 8192) j :=
  ext2 (at_index (win0_1.rect_emb_val t (ix2 i j) 0 rfl) (idx0_1 t).1 rfl)
    (at_index (win0_1.rect_emb_val t (ix2 i j) 1 rfl) (idx0_1 t).2 (zero_tile _ _))

theorem emb0_2 (t : Fin cfg0.N) (i : Fin 6144) (j : Fin 2048) :
    ((cfg0.win 2).blk t).view.emb (ix2 i j) = ix2 i j :=
  ext2 (at_index (win0_2.rect_emb_val t (ix2 i j) 0 rfl) (idx0_2 t).1 (zero_tile _ _))
    (at_index (win0_2.rect_emb_val t (ix2 i j) 1 rfl) (idx0_2 t).2 (zero_tile _ _))

theorem emb0_3 (t : Fin cfg0.N) (i : Fin 6144) (j : Fin 256) :
    ((cfg0.win 3).blk t).view.emb (ix2 i j) = ix2 i (⟨t.val * 256 + j, by have := lt0 t; omega⟩ : Fin 8192) :=
  ext2 (at_index (win0_3.rect_emb_val t (ix2 i j) 0 rfl) (idx0_3 t).1 (zero_tile _ _))
    (at_index (win0_3.rect_emb_val t (ix2 i j) 1 rfl) (idx0_3 t).2 rfl)

theorem emb0_4 (t : Fin cfg0.N) (i : Fin 256) (j : Fin 2048) :
    ((cfg0.win 4).blk t).view.emb (ix2 i j) = ix2 (⟨t.val * 256 + i, by have := lt0 t; omega⟩ : Fin 8192) j :=
  ext2 (at_index (win0_4.rect_emb_val t (ix2 i j) 0 rfl) (idx0_4 t).1 rfl)
    (at_index (win0_4.rect_emb_val t (ix2 i j) 1 rfl) (idx0_4 t).2 (zero_tile _ _))

theorem emb0_5 (t : Fin cfg0.N) (i : Fin 256) (j : Fin 2048) :
    ((cfg0.win 5).blk t).view.emb (ix2 i j) = ix2 (⟨t.val * 256 + i, by have := lt0 t; omega⟩ : Fin 8192) j :=
  ext2 (at_index (win0_5.rect_emb_val t (ix2 i j) 0 rfl) (idx0_5 t).1 rfl)
    (at_index (win0_5.rect_emb_val t (ix2 i j) 1 rfl) (idx0_5 t).2 (zero_tile _ _))

theorem emb0_6 (t : Fin cfg0.N) (i : Fin 64) (j : Fin 16) :
    ((cfg0.win 6).blk t).view.emb (ix2 i j) = ix2 i j :=
  ext2 (at_index (win0_6.rect_emb_val t (ix2 i j) 0 rfl) (idx0_6 t).1 (zero_tile _ _))
    (at_index (win0_6.rect_emb_val t (ix2 i j) 1 rfl) (idx0_6 t).2 (zero_tile _ _))

theorem emb0_7 (t : Fin cfg0.N) (i : Fin 256) (j : Fin 2048) :
    ((cfg0.win 7).blk t).view.emb (ix2 i j) = ix2 (⟨t.val * 256 + i, by have := lt0 t; omega⟩ : Fin 8192) j :=
  ext2 (at_index (win0_7.rect_emb_val t (ix2 i j) 0 rfl) (idx0_7 t).1 rfl)
    (at_index (win0_7.rect_emb_val t (ix2 i j) 1 rfl) (idx0_7 t).2 (zero_tile _ _))

theorem emb1_0 (t : Fin cfg1.N) (i : Fin 512) (j : Fin 8192) :
    ((cfg1.win 0).blk t).view.emb (ix2 i j) = ix2 (⟨t.val * 512 + i, by have := lt1 t; omega⟩ : Fin 6144) j :=
  ext2 (at_index (win1_0.rect_emb_val t (ix2 i j) 0 rfl) (idx1_0 t).1 rfl)
    (at_index (win1_0.rect_emb_val t (ix2 i j) 1 rfl) (idx1_0 t).2 (zero_tile _ _))

theorem emb1_1 (t : Fin cfg1.N) (i : Fin 8192) (j : Fin 2048) :
    ((cfg1.win 1).blk t).view.emb (ix2 i j) = ix2 i j :=
  ext2 (at_index (win1_1.rect_emb_val t (ix2 i j) 0 rfl) (idx1_1 t).1 (zero_tile _ _))
    (at_index (win1_1.rect_emb_val t (ix2 i j) 1 rfl) (idx1_1 t).2 (zero_tile _ _))

theorem emb1_2 (t : Fin cfg1.N) (i : Fin 512) (j : Fin 2048) :
    ((cfg1.win 2).blk t).view.emb (ix2 i j) = ix2 (⟨t.val * 512 + i, by have := lt1 t; omega⟩ : Fin 6144) j :=
  ext2 (at_index (win1_2.rect_emb_val t (ix2 i j) 0 rfl) (idx1_2 t).1 rfl)
    (at_index (win1_2.rect_emb_val t (ix2 i j) 1 rfl) (idx1_2 t).2 (zero_tile _ _))

end Cert.KernelIdeal.Gen
-- ==== Proof.Scale.lean ====
module

public import Idealize.ShloMosaic.PureOps.Ideal
public import Idealize.ShloMosaic.PureOps.Ideal.Laws
public import Idealize.ShloMosaic.PureOps.Reduce

@[expose] public section

noncomputable section

namespace Cert.Scale

open Idealize.ShloMosaic

/-! The power of two above a nonnegative number, once as the kernel reads it off an integer field and once as
the reference reads it off a logarithm. -/

/-- Two to an integer power. -/
def pow2 (j : ℤ) : EReal := (((2 : ℝ) ^ j : ℝ) : EReal)

theorem pow2_le {i j : ℤ} (h : i ≤ j) : pow2 i ≤ pow2 j :=
  EReal.coe_le_coe_iff.2 (zpow_le_zpow_right₀ (by norm_num) h)

/-- How many of the powers `2 ^ -126 … 2 ^ 127` are at most `v`. -/
def count (v : EReal) : ℕ := (Finset.univ.filter fun k : Fin 254 => pow2 ((k : ℤ) - 126) ≤ v).card

/-- The powers at most `v` are the first `count v`. -/
theorem le_iff (v : EReal) (k : Fin 254) : pow2 ((k : ℤ) - 126) ≤ v ↔ (k : ℕ) < count v := by
  constructor
  · intro h
    have hs : Finset.Iic k ⊆ Finset.univ.filter fun k : Fin 254 => pow2 ((k : ℤ) - 126) ≤ v := fun i hi => by
      have hi' : (i : ℕ) ≤ k := Fin.le_def.1 (Finset.mem_Iic.1 hi)
      exact Finset.mem_filter.2 ⟨Finset.mem_univ _, (pow2_le (by omega)).trans h⟩
    have hc := Finset.card_le_card hs
    rw [Fin.card_Iic] at hc
    unfold count; omega
  · intro h
    by_contra hk
    have hs : (Finset.univ.filter fun k : Fin 254 => pow2 ((k : ℤ) - 126) ≤ v) ⊆ Finset.Iio k := fun i hi => by
      refine Finset.mem_Iio.2 (Fin.lt_def.2 ?_)
      by_contra hik
      exact hk ((pow2_le (by omega)).trans (Finset.mem_filter.1 hi).2)
    have hc := Finset.card_le_card hs
    rw [Fin.card_Iio] at hc
    unfold count at h; omega

theorem count_le (v : EReal) : count v ≤ 254 :=
  (Finset.card_filter_le _ _).trans (by simp)

theorem count_lt {v : EReal} (h : v < pow2 126) : count v ≤ 252 := by
  by_contra hc
  have := (le_iff v ⟨252, by norm_num⟩).2 (by show 252 < _; omega)
  exact absurd h (not_lt.2 (by simpa using this))

/-- The exponent of the scale: zero when no power is at most `v`, else one above the largest. -/
def expo (v : EReal) : ℤ := if count v = 0 then 0 else (count v : ℤ) - 126

/-! ## Reading the bits of a power -/

/-- The word of an integer in the exponent field. -/
def fieldWord (n : ℕ) : BitVec 32 := BitVec.ofNat 32 n <<< 23

theorem fieldWord_parts : ∀ n : Fin 256,
    (fieldWord n).extractLsb' 31 1 = 0#1 ∧ ((fieldWord n).extractLsb' 23 8).toNat = n ∧
      ((fieldWord n).extractLsb' 0 23).toNat = 0 := by decide +kernel

/-- A positive normal pattern's value, from its two fields. -/
theorem ofBits_normal (b : BitVec 32) (n fr : ℕ) (hs : b.extractLsb' 31 1 = 0#1)
    (he : (b.extractLsb' 23 8).toNat = n) (hf : (b.extractLsb' 0 23).toNat = fr) (h0 : 1 ≤ n) (h1 : n ≤ 254) :
    Ideal.ofBits .f32 b = ((((2 : ℝ) ^ 23 + fr) * (2 : ℝ) ^ ((n : ℤ) - 150) : ℝ) : EReal) := by
  unfold Ideal.ofBits Ideal.ieee
  simp only [Nat.reduceAdd, he, hf, hs]
  rw [if_neg (by norm_num; omega), if_neg (by omega)]
  congr 1
  rw [show ((n : ℤ) - (2 ^ (8 - 1) - 1) - (23 : ℕ)) = (n : ℤ) - 150 by norm_num; ring]
  simp
  left; norm_num

theorem ofBits_fieldWord (n : ℕ) (h0 : 1 ≤ n) (h1 : n ≤ 254) :
    Ideal.ofBits .f32 (fieldWord n) = pow2 ((n : ℤ) - 127) := by
  have hp := fieldWord_parts ⟨n, by omega⟩
  dsimp only at hp
  rw [ofBits_normal (fieldWord n) n 0 hp.1 hp.2.1 hp.2.2 h0 h1]
  unfold pow2
  have e : ((n : ℤ) - 127) = ((23 : ℕ) : ℤ) + ((n : ℤ) - 150) := by push_cast; ring
  rw [e, zpow_add₀ (by norm_num), zpow_natCast, Nat.cast_zero, add_zero]

theorem ofBits_fieldWord_zero : Ideal.ofBits .f32 (fieldWord 0) = 0 := by
  obtain ⟨hs, he, hf⟩ := fieldWord_parts 0
  simp only [Fin.val_zero] at hs he hf
  unfold Ideal.ofBits Ideal.ieee
  simp only [Nat.reduceAdd, he, hf, hs]
  simp

theorem ofBits_fieldWord_top : Ideal.ofBits .f32 (fieldWord 255) = ⊤ := by
  obtain ⟨hs, he, hf⟩ := fieldWord_parts 255
  simp only [show ((255 : Fin 256) : ℕ) = 255 from rfl] at hs he hf
  unfold Ideal.ofBits Ideal.ieee
  simp only [Nat.reduceAdd, he, hf, hs]
  simp

/-! ## The kernel's field -/

theorem toInt_maxsi (x y : BitVec 32) : (IntOp.maxsi x y).toInt = max x.toInt y.toInt := by
  unfold IntOp.maxsi
  simp only [BitVec.slt, decide_eq_true_eq]
  split <;> omega

/-- A signed maximum over a finite set is `b` when every member is at most `b` and one is `b`. -/
theorem fold_maxsi_eq {ι : Type} (s : Finset ι) (g : ι → BitVec 32) (a b : BitVec 32) (ha : a.toInt ≤ b.toInt)
    (hle : ∀ k ∈ s, (g k).toInt ≤ b.toInt) (hm : ∃ k ∈ s, g k = b) : s.fold IntOp.maxsi a g = b := by
  apply BitVec.eq_of_toInt_eq
  rw [← Finset.fold_hom (op := IntOp.maxsi) (op' := max) (m := BitVec.toInt) toInt_maxsi]
  refine le_antisymm ((Finset.fold_max_le _).2 ⟨ha, hle⟩) ((Finset.le_fold_max _).2 (.inr ?_))
  obtain ⟨k, hk, e⟩ := hm
  exact ⟨k, hk, e ▸ le_rfl⟩

theorem toInt_ofNat {n : ℕ} (h : n < 2 ^ 31) : (BitVec.ofNat 32 n).toInt = n := by
  rw [BitVec.toInt_eq_toNat_of_lt (by rw [BitVec.toNat_ofNat]; omega), BitVec.toNat_ofNat]; omega

/-- The largest index whose power is at most `v`, as the kernel takes it. -/
def kfield (v : EReal) : BitVec 32 :=
  (Finset.univ : Finset (Fin 256)).fold IntOp.maxsi 2147483648#32 fun k : Fin 256 =>
    if Ideal.ofBits .f32 (fieldWord k) ≤ v then BitVec.ofNat 32 k else 0#32

theorem kfield_eq {v : EReal} (h : 0 ≤ v) (ht : v < ⊤) : kfield v = BitVec.ofNat 32 (count v) := by
  have hc := count_le v
  have key : ∀ k : Fin 256, Ideal.ofBits .f32 (fieldWord k) ≤ v ↔ (k : ℕ) ≤ count v := fun k => by
    rcases Nat.eq_zero_or_pos (k : ℕ) with h0 | h0
    · rw [h0, ofBits_fieldWord_zero]; simp [h]
    · rcases Nat.lt_or_ge (k : ℕ) 255 with h1 | h1
      · rw [ofBits_fieldWord _ h0 (by omega)]
        have := le_iff v ⟨(k : ℕ) - 1, by omega⟩
        rw [show (((⟨(k : ℕ) - 1, by omega⟩ : Fin 254) : ℕ) : ℤ) - 126 = (k : ℤ) - 127 by
          show (((k : ℕ) - 1 : ℕ) : ℤ) - 126 = _; omega] at this
        rw [this]; show (k : ℕ) - 1 < _ ↔ _; omega
      · rw [show (k : ℕ) = 255 by omega, ofBits_fieldWord_top]
        exact ⟨fun h => absurd (top_le_iff.1 h) ht.ne, fun h => by omega⟩
  refine fold_maxsi_eq _ _ _ _ ?_ (fun k _ => ?_) ⟨⟨count v, by omega⟩, Finset.mem_univ _, ?_⟩
  · rw [toInt_ofNat (n := count v) (by omega)]; exact le_trans (by decide) (Int.natCast_nonneg _)
  · rw [toInt_ofNat (n := count v) (by omega)]
    split
    · rename_i hk; rw [toInt_ofNat (by omega)]; exact_mod_cast (key k).1 hk
    · exact Int.natCast_nonneg _
  · exact if_pos ((key _).2 le_rfl)

/-- The kernel's field of the scale: 127 (the field of one) at the two corner fields, else one more. -/
def upField (n : BitVec 32) : BitVec 32 := if n = 0#32 ∨ n = 255#32 then 127#32 else n + 1#32
/-- The kernel's field of the inverse scale. -/
def downField (n : BitVec 32) : BitVec 32 := if n = 0#32 ∨ n = 255#32 then 127#32 else 253#32 - n

theorem fields : ∀ n : Fin 253,
    upField (BitVec.ofNat 32 n) <<< 23 = fieldWord (if (n : ℕ) = 0 then 127 else n + 1) ∧
      downField (BitVec.ofNat 32 n) <<< 23 = fieldWord (if (n : ℕ) = 0 then 127 else 253 - n) := by decide +kernel

theorem ofBits_up {v : EReal} (h : 0 ≤ v) (ht : v < pow2 126) :
    Ideal.ofBits .f32 (upField (kfield v) <<< 23) = pow2 (expo v) := by
  have hc := count_lt ht
  rw [kfield_eq h (ht.trans (EReal.coe_lt_top _)), (fields ⟨count v, by omega⟩).1]
  rw [ofBits_fieldWord _ (by dsimp only; split <;> omega) (by dsimp only; split <;> omega)]
  unfold expo; congr 1; dsimp only
  split <;> push_cast <;> omega

theorem ofBits_down {v : EReal} (h : 0 ≤ v) (ht : v < pow2 126) :
    Ideal.ofBits .f32 (downField (kfield v) <<< 23) = pow2 (- expo v) := by
  have hc := count_lt ht
  rw [kfield_eq h (ht.trans (EReal.coe_lt_top _)), (fields ⟨count v, by omega⟩).2]
  rw [ofBits_fieldWord _ (by dsimp only; split <;> omega) (by dsimp only; split <;> omega)]
  unfold expo; congr 1; dsimp only
  split <;> omega

/-! ## The reference's logarithm -/

theorem exp2_int (j : ℤ) : Ideal.exp2 (((j : ℝ) : EReal)) = pow2 j := by
  show ((Real.rpow 2 (j : ℝ) : ℝ) : EReal) = _
  unfold pow2; congr 1; exact Real.rpow_intCast 2 j

theorem ofBits_two : Ideal.ofBits .f32 0x40000000#32 = ((2 : ℝ) : EReal) := by
  rw [ofBits_normal _ 128 0 (by decide) (by decide) (by decide) (by norm_num) (by norm_num)]
  congr 1; norm_num

theorem ofBits_one : Ideal.ofBits .f32 0x3F800000#32 = ((1 : ℝ) : EReal) := by
  rw [ofBits_normal _ 127 0 (by decide) (by decide) (by decide) (by norm_num) (by norm_num)]
  congr 1; norm_num

theorem ofBits_least : Ideal.ofBits .f32 0x00800000#32 = pow2 (-126) := by
  rw [ofBits_normal _ 1 0 (by decide) (by decide) (by decide) (by norm_num) (by norm_num)]
  unfold pow2; congr 1; norm_num

/-- The logarithm to base two of a positive real. -/
theorem log2_coe {r : ℝ} (h : 0 < r) : Ideal.div (Ideal.log r) (Ideal.log (2 : ℝ)) = ((Real.log r / Real.log 2 : ℝ) : EReal) := by
  have h2 : Real.log 2 ≠ 0 := (Real.log_pos (by norm_num)).ne'
  rw [Ideal.log_coe, Ideal.log_coe, if_neg (not_le.2 h), if_neg (by norm_num)]
  unfold Ideal.div
  rw [if_neg (by exact_mod_cast h2), ← EReal.coe_inv, ← EReal.coe_mul, div_eq_mul_inv]

/-- The reference's exponent from its logarithm. -/
theorem expo_of_log {v : EReal} (h : 0 ≤ v) (ht : v < pow2 126) :
    (if v < pow2 (-126) then (0 : EReal)
      else Ideal.liftRound Int.floor (Ideal.div (Ideal.log v) (Ideal.log (2 : ℝ))) + ((1 : ℝ) : EReal)) = ((expo v : ℝ) : EReal) := by
  have hl := le_iff v ⟨0, by norm_num⟩
  rw [show (((⟨0, by norm_num⟩ : Fin 254) : ℕ) : ℤ) - 126 = -126 by rfl] at hl
  have hc := count_lt ht
  unfold expo
  by_cases h0 : count v = 0
  · rw [if_pos h0, if_pos (not_le.1 fun h1 => by have := hl.1 h1; dsimp only at this; omega)]; simp
  · rw [if_neg h0, if_neg (not_lt.2 (hl.2 (Nat.pos_of_ne_zero h0)))]
    have hlo := (le_iff v ⟨count v - 1, by omega⟩).2 (by show count v - 1 < count v; omega)
    have hhi : ¬ pow2 ((count v : ℤ) - 126) ≤ v := fun h1 => absurd ((le_iff v ⟨count v, by omega⟩).1 h1) (lt_irrefl _)
    rw [show (((⟨count v - 1, by omega⟩ : Fin 254) : ℕ) : ℤ) - 126 = (count v : ℤ) - 127 by
      show ((count v - 1 : ℕ) : ℤ) - 126 = _; omega] at hlo
    generalize count v = n at *
    induction v with
    | bot => exact absurd h (by simp)
    | top => exact absurd ht (by simp)
    | coe r =>
      unfold pow2 at hlo hhi
      rw [EReal.coe_le_coe_iff] at hlo hhi
      have hr : 0 < r := lt_of_lt_of_le (zpow_pos (by norm_num) _) hlo
      rw [log2_coe hr]
      have h2 : (0 : ℝ) < Real.log 2 := Real.log_pos (by norm_num)
      have hf : ⌊Real.log r / Real.log 2⌋ = (n : ℤ) - 127 := by
        rw [Int.floor_eq_iff]
        constructor
        · rw [le_div_iff₀ h2, ← Real.log_zpow]
          exact Real.log_le_log (zpow_pos (by norm_num) _) hlo
        · rw [div_lt_iff₀ h2, show (((n : ℤ) - 127 : ℤ) : ℝ) + 1 = (((n : ℤ) - 126 : ℤ) : ℝ) by push_cast; ring, ← Real.log_zpow]
          exact Real.log_lt_log hr (not_le.1 hhi)
      show (((⌊Real.log r / Real.log 2⌋ : ℤ) : ℝ) : EReal) + _ = _
      rw [hf, ← EReal.coe_add]
      congr 1; push_cast; ring

/-! ## The range of the scaled maximum -/

theorem ofBits_c : ∃ r : ℝ, Ideal.ofBits .f32 0x3B124925#32 = (r : EReal) ∧ 0 ≤ r ∧ r ≤ 1 / 8 :=
  ⟨_, ofBits_normal _ 118 0x124925 (by decide) (by decide) (by decide) (by norm_num) (by norm_num),
    by norm_num, by norm_num⟩

theorem ofBits_max : ∃ r : ℝ, Ideal.ofBits .f32 0x7F7FFFFF#32 = (r : EReal) ∧ r < (2 : ℝ) ^ (128 : ℤ) :=
  ⟨_, ofBits_normal _ 254 0x7FFFFF (by decide) (by decide) (by decide) (by norm_num) (by norm_num), by norm_num⟩

/-- The block maximum times one 448th. -/
def scaled (a : EReal) : EReal := a * Ideal.ofBits .f32 0x3B124925#32

theorem scaled_range {a : EReal} (h0 : 0 ≤ a) (h1 : a ≤ Ideal.ofBits .f32 0x7F7FFFFF#32) :
    0 ≤ scaled a ∧ scaled a < pow2 126 := by
  obtain ⟨c, hc, hc0, hc1⟩ := ofBits_c
  obtain ⟨m, hm, hm1⟩ := ofBits_max
  rw [hm] at h1
  induction a with
  | bot => exact absurd h0 (by simp)
  | top => exact absurd h1 (by simp)
  | coe r =>
    have h0' : 0 ≤ r := by exact_mod_cast h0
    have h1' : r ≤ m := by exact_mod_cast h1
    unfold scaled pow2
    rw [hc, ← EReal.coe_mul]
    refine ⟨by exact_mod_cast mul_nonneg h0' hc0, EReal.coe_lt_coe_iff.2 ?_⟩
    calc r * c ≤ r * (1 / 8) := mul_le_mul_of_nonneg_left hc1 h0'
      _ < (2 : ℝ) ^ (126 : ℤ) := by
        have : r < (2 : ℝ) ^ (128 : ℤ) := h1'.trans_lt hm1
        norm_num at this ⊢; linarith

/-- The scale of a block with absolute maximum `a`, and its inverse. -/
def scaleOf (a : EReal) : EReal := pow2 (expo (scaled a))
def invOf (a : EReal) : EReal := pow2 (- expo (scaled a))

/-! ## A block -/

/-- The largest absolute value of a block. -/
def amax (f : Fin 128 → Fin 128 → EReal) : EReal := ⨆ p, ⨆ q, max (f p q) (- f p q)

theorem le_amax (f : Fin 128 → Fin 128 → EReal) (p q : Fin 128) : max (f p q) (- f p q) ≤ amax f :=
  le_iSup₂ (f := fun p q => max (f p q) (- f p q)) p q

theorem amax_nonneg (f : Fin 128 → Fin 128 → EReal) : 0 ≤ amax f := by
  refine le_trans ?_ (le_amax f 0 0)
  rcases le_total 0 (f 0 0) with h | h
  · exact le_max_of_le_left h
  · exact le_max_of_le_right (EReal.neg_nonneg.2 h)

theorem amax_le {f : Fin 128 → Fin 128 → EReal} {b : EReal} (h : ∀ p q, max (f p q) (- f p q) ≤ b) : amax f ≤ b :=
  iSup₂_le h

/-- Clipping to the range of the eight-bit format. -/
def clip (x : EReal) : EReal := min (Ideal.ofBits .f32 0x43E00000#32) (max (Ideal.ofBits .f32 0xC3E00000#32) x)

theorem ofBits_bot : Ideal.ofBits .f32 0xFF800000#32 = ⊥ := by
  unfold Ideal.ofBits Ideal.ieee
  simp only [Nat.reduceAdd, show (0xFF800000#32 : BitVec 32).extractLsb' 23 8 = 255#8 by decide,
    show (0xFF800000#32 : BitVec 32).extractLsb' 0 23 = 0#23 by decide,
    show (0xFF800000#32 : BitVec 32).extractLsb' 31 1 = 1#1 by decide]
  simp

end Cert.Scale
-- ==== Proof.KerBlock.lean ====
module

public import proofs.«01_k».proof.Proof.Blocks
public import proofs.«01_k».proof.Proof.Scale
public import Idealize.ShloMosaic.Lib.Pointwise

@[expose] public section

set_option maxRecDepth 16384

noncomputable section

namespace Cert.KernelIdeal.Gen

open Idealize.ShloMosaic Idealize.ShloMosaic.TcCoe Cert.Scale

/-! The kernel's arithmetic on one 128 by 128 block, over the extended reals. -/

/-- The entries of a block. -/
abbrev ent (wb : Vec Ideal S128x128 .f32) : Fin 128 → Fin 128 → EReal := fun p q => wb (ix2 p q)

theorem fold_max (f : Fin 128 → Fin 128 → EReal) :
    (Finset.univ : Finset (Fin 128)).fold max ⊥ (fun q => (Finset.univ : Finset (Fin 128)).fold max ⊥ (fun p => f p q))
      = ⨆ p, ⨆ q, f p q := by
  refine le_antisymm ((Finset.fold_max_le _).2 ⟨bot_le, fun q _ => (Finset.fold_max_le _).2 ⟨bot_le, fun p _ => ?_⟩⟩) (iSup₂_le fun p q => ?_)
  · exact le_iSup₂ (f := f) p q
  · exact (Finset.le_fold_max _).2 (.inr ⟨q, Finset.mem_univ _, (Finset.le_fold_max _).2 (.inr ⟨p, Finset.mem_univ _, le_rfl⟩)⟩)

theorem shl23 (x : BitVec 32) : IntOp.shli ArithUnit.vector x 23#32 = x <<< 23 := by
  unfold IntOp.shli
  rw [if_pos (by decide)]; rfl

theorem pay3_apply (wb : Vec Ideal S128x128 .f32) (j : S1x1.Idx) : k0_pay3 wb j = kfield (scaled (amax (ent wb))) := by
  pointwise [k0_pay3]
  simp only [shl23, ofBits_bot]
  have e : amax (ent wb) = _ := (fold_max fun p q => max (wb (ix2 p q)) (- wb (ix2 p q))).symm
  rw [e]; rfl

theorem corner (n a b : BitVec 32) :
    Scalar.select (IntOp.ori (IntOp.cmpi CmpIPredicate.eq n 0#32) (IntOp.cmpi CmpIPredicate.eq n 255#32)) a b
      = if n = 0#32 ∨ n = 255#32 then a else b := by
  by_cases h0 : n = 0#32
  · subst h0; rfl
  · by_cases h1 : n = 255#32
    · subst h1; rfl
    · have e0 : IntOp.cmpi CmpIPredicate.eq n 0#32 = 0#1 := congrArg BitVec.ofBool (beq_eq_false_iff_ne.2 h0)
      have e1 : IntOp.cmpi CmpIPredicate.eq n 255#32 = 0#1 := congrArg BitVec.ofBool (beq_eq_false_iff_ne.2 h1)
      rw [e0, e1, if_neg (by tauto)]; rfl

/-- A block's values lie in the range of single precision. -/
abbrev Fits (wb : Vec Ideal S128x128 .f32) : Prop := amax (ent wb) ≤ Ideal.ofBits .f32 0x7F7FFFFF#32

theorem pay5_apply (wb : Vec Ideal S128x128 .f32) (h : Fits wb) (j : S1x1.Idx) : k0_pay5 wb j = scaleOf (amax (ent wb)) := by
  pointwise [k0_pay5, k0_pay4]
  simp only [shl23, corner, pay3_apply]
  have hr := scaled_range (amax_nonneg (ent wb)) h
  exact ofBits_up hr.1 hr.2

theorem pay6_apply (wb : Vec Ideal S128x128 .f32) (h : Fits wb) (p q : Fin 128) :
    k0_pay6 wb (ix2 p q) = wb (ix2 p q) * invOf (amax (ent wb)) := by
  pointwise [k0_pay6, k0_pay4]
  simp only [shl23, corner, pay3_apply]
  have hr := scaled_range (amax_nonneg (ent wb)) h
  exact congrArg (wb (ix2 p q) * ·) (ofBits_down hr.1 hr.2)

theorem codesB_apply (wb : Vec Ideal S128x128 .f32) (h : Fits wb) (p q : Fin 128) :
    codesB wb (ix2 p q) = clip (wb (ix2 p q) * invOf (amax (ent wb))) := by
  pointwise [codesB, k0_pay7]
  rw [pay6_apply wb h]; rfl

theorem wqB_apply (wb : Vec Ideal S128x128 .f32) (h : Fits wb) (p q : Fin 128) :
    wqB wb (ix2 p q) = clip (wb (ix2 p q) * invOf (amax (ent wb))) * scaleOf (amax (ent wb)) := by
  pointwise [wqB, k0_pay8]
  rw [pay5_apply wb h, ← codesB_apply wb h]; rfl

theorem rowStep_apply (wb : Vec Ideal S128x128 .f32) (h : Fits wb) (c : ℕ) (hc : c < 16) (acc : FVec Ideal S1x16 .f32) (q : Fin 16) :
    rowStep (BitVec.ofNat 32 c) acc wb (ix2 0 q) = if (q : ℕ) = c then scaleOf (amax (ent wb)) else acc (ix2 0 q) := by
  pointwise [rowStep]
  rw [pay5_apply wb h]
  by_cases e : (q : ℕ) = c
  · rw [if_pos e, e]; simp [IntOp.cmpi, Scalar.select]
  · rw [if_neg e]
    have hne : BitVec.ofNat 32 (q : ℕ) ≠ BitVec.ofNat 32 c := fun h => e (by
      have := congrArg BitVec.toNat h
      simp only [BitVec.toNat_ofNat] at this
      have := q.isLt
      omega)
    simp [IntOp.cmpi, Scalar.select, beq_eq_false_iff_ne.2 hne]

/-- The scale row after the first `n` blocks. -/
def rowUpTo (x : Vec Ideal S256x2048 .f32) (r : Fin 2) : ℕ → FVec Ideal S1x16 .f32
  | 0 => k0_pay2
  | n + 1 => rowStep (BitVec.ofNat 32 n) (rowUpTo x r n) (blkB x r (Fin.ofNat 16 n))

theorem rowUpTo_apply (x : Vec Ideal S256x2048 .f32) (r : Fin 2) (h : ∀ c, Fits (blkB x r c)) (c : Fin 16) :
    ∀ n : ℕ, n ≤ 16 → (c : ℕ) < n → rowUpTo x r n (ix2 0 c) = scaleOf (amax (ent (blkB x r c)))
  | 0, _, hc => absurd hc (Nat.not_lt_zero _)
  | n + 1, hn, hc => by
    unfold rowUpTo
    rw [rowStep_apply _ (h _) n (by omega)]
    by_cases e : (c : ℕ) = n
    · rw [if_pos e, show Fin.ofNat 16 n = c from Fin.ext (by show n % 16 = _; omega)]
    · rw [if_neg e]; exact rowUpTo_apply x r h c n (by omega) (by omega)

/-- The scale row holds at lane `c` the scale of block `c`. -/
theorem rowB_apply (x : Vec Ideal S256x2048 .f32) (r : Fin 2) (h : ∀ c, Fits (blkB x r c)) (c : Fin 16) :
    rowB x r (ix2 0 c) = scaleOf (amax (ent (blkB x r c))) :=
  (show rowB x r = rowUpTo x r 16 from rfl) ▸ rowUpTo_apply x r h c 16 le_rfl c.isLt

end Cert.KernelIdeal.Gen
-- ==== Proof.Spec.lean ====
module

public import proofs.«01_k».proof.Proof.Scale
public import Idealize.ShloMosaic.Lib.Pointwise.Index

@[expose] public section

noncomputable section

namespace Cert.Scale

open Idealize.ShloMosaic

/-! The quantised weight, entry by entry: what both programs compute. -/

/-- A weight matrix. -/
abbrev Weight : Type := (⟨2, ![8192, 2048]⟩ : Shape).Idx → EReal

/-- Every weight is at most the largest float. -/
abbrev Small (W : Weight) : Prop := ∀ (r : Fin 8192) (n : Fin 2048), max (W (ix2 r n)) (- W (ix2 r n)) ≤ Ideal.ofBits .f32 0x7F7FFFFF#32

/-- The block of the weight at block row `R`, block column `C`. -/
abbrev wBlk (W : Weight) (R : Fin 64) (C : Fin 16) : Fin 128 → Fin 128 → EReal := fun p q =>
  W (ix2 ⟨R * 128 + p, by omega⟩ ⟨C * 128 + q, by omega⟩)

theorem amax_wBlk_le {W : Weight} (h : Small W) (R : Fin 64) (C : Fin 16) : amax (wBlk W R C) ≤ Ideal.ofBits .f32 0x7F7FFFFF#32 :=
  amax_le fun _ _ => h _ _

/-- The absolute maximum of the block an entry lies in. -/
def amaxAt (W : Weight) (r : Fin 8192) (c : Fin 2048) : EReal := amax (wBlk W ⟨r / 128, by omega⟩ ⟨c / 128, by omega⟩)

/-- The code of an entry. -/
def codeAt (W : Weight) (r : Fin 8192) (c : Fin 2048) : EReal := clip (W (ix2 r c) * invOf (amaxAt W r c))

/-- The quantised value of an entry. -/
def deqAt (W : Weight) (r : Fin 8192) (c : Fin 2048) : EReal := codeAt W r c * scaleOf (amaxAt W r c)

/-! The results, entry by entry. -/

/-- The input. -/
abbrev Acts : Type := (⟨3, ![6, 1024, 8192]⟩ : Shape).Idx → EReal
/-- The gradient of the output. -/
abbrev Grads : Type := (⟨3, ![6, 1024, 2048]⟩ : Shape).Idx → EReal

/-- The output: the input by the quantised weight. -/
def outY (x : Acts) (W : Weight) : Grads := fun i => ∑ k : Fin 8192, x (ix3 (i 0) (i 1) k) * deqAt W k (i 2)
/-- The gradient of the input: the output gradient by the transposed quantised weight. -/
def outDx (g : Grads) (W : Weight) : Acts := fun i => ∑ k : Fin 2048, g (ix3 (i 0) (i 1) k) * deqAt W (i 2) k
/-- The gradient of the weight: the transposed input by the output gradient. -/
def outDw (x : Acts) (g : Grads) : Weight := fun i =>
  ∑ k : Fin 6144, x (ix3 ⟨k / 1024, by omega⟩ ⟨k % 1024, by omega⟩ (i 0)) * g (ix3 ⟨k / 1024, by omega⟩ ⟨k % 1024, by omega⟩ (i 1))
/-- The codes. -/
def outCodes (W : Weight) : Weight := fun i => codeAt W (i 0) (i 1)
/-- The scales. -/
def outScales (W : Weight) : (⟨2, ![64, 16]⟩ : Shape).Idx → EReal := fun i => scaleOf (amax (wBlk W (i 0) (i 1)))

/-- Every index of a matrix is a pair of coordinates. -/
theorem as_pair {a b : ℕ} (x : (⟨2, ![a, b]⟩ : Shape).Idx) : ∃ i j, x = ix2 i j :=
  ⟨x 0, x 1, funext fun i => match i with | ⟨0, _⟩ => rfl | ⟨1, _⟩ => rfl⟩
/-- Every index of a rank-three array is a triple of coordinates. -/
theorem as_triple {a b c : ℕ} (x : (⟨3, ![a, b, c]⟩ : Shape).Idx) : ∃ i j k, x = ix3 i j k :=
  ⟨x 0, x 1, x 2, funext fun i => match i with | ⟨0, _⟩ => rfl | ⟨1, _⟩ => rfl | ⟨2, _⟩ => rfl⟩

end Cert.Scale
-- ==== Proof.KerArr.lean ====
module

public import proofs.«01_k».proof.Proof.KerEmb
public import proofs.«01_k».proof.Proof.KerBlock
public import proofs.«01_k».proof.Proof.Spec

@[expose] public section

set_option maxRecDepth 16384

noncomputable section

namespace Cert.KernelIdeal.Gen

open Idealize.ShloMosaic Idealize.ShloMosaic.TcCoe Cert.Scale
open Idealize.ShloMosaic.Pipeline (Dat)

variable (V : Entry Ideal) (c : Dev nD)

/-! The arrays the two regions leave, entry by entry, at the exact reading. -/

/-- The input, as region 0 finds it. -/
abbrev inX : Vec Ideal S6144x8192 .bf16 := V c main_v0
/-- The output gradient, as region 0 finds it. -/
abbrev inG : Vec Ideal S6144x2048 .bf16 := V c main_v1
/-- The weight, as region 0 finds it. -/
abbrev inW : Vec Ideal S8192x2048 .f32 := V c main_arg1

theorem iblk0_0 (t : Fin cfg0.N) (i : Fin 6144) (j : Fin 256) :
    iblk0 V c 0 t (ix2 i j) = inX V c (ix2 i (⟨t.val * 256 + j, by have := lt0 t; omega⟩ : Fin 8192)) := congrArg (V c main_v0) (emb0_0 t i j)
theorem iblk0_1 (t : Fin cfg0.N) (i : Fin 256) (j : Fin 2048) :
    iblk0 V c 1 t (ix2 i j) = inW V c (ix2 (⟨t.val * 256 + i, by have := lt0 t; omega⟩ : Fin 8192) j) := congrArg (V c main_arg1) (emb0_1 t i j)
theorem iblk0_2 (t : Fin cfg0.N) (i : Fin 6144) (j : Fin 2048) :
    iblk0 V c 2 t (ix2 i j) = inG V c (ix2 i j) := congrArg (V c main_v1) (emb0_2 t i j)

/-- A block of the staged weight is a block of the weight. -/
theorem ent_blk (t : Fin cfg0.N) (r : Fin 2) (C : Fin 16) :
    ent (blkB (iblk0 V c 1 t) r C) = wBlk (inW V c) ⟨t.val * 2 + r, by have := lt0 t; omega⟩ C := by
  funext p q
  have e : (rB r C).emb (ix2 p q) = ix2 (⟨128 * r.val + p, by omega⟩ : Fin 256) (⟨128 * C.val + q, by omega⟩ : Fin 2048) :=
    ext2 (by show 128 * r.val + 1 * p.val = _; rw [Nat.one_mul]; rfl) (by show 128 * C.val + 1 * q.val = _; rw [Nat.one_mul]; rfl)
  show iblk0 V c 1 t ((rB r C).emb (ix2 p q)) = _
  rw [e, iblk0_1]
  refine congrArg (inW V c) (ext2 ?_ ?_)
  · show t.val * 256 + (128 * r.val + p.val) = (t.val * 2 + r.val) * 128 + p.val; omega
  · show 128 * C.val + q.val = C.val * 128 + q.val; omega

variable {V c}

theorem fits_blk (hW : Small (inW V c)) (t : Fin cfg0.N) (r : Fin 2) (C : Fin 16) : Fits (blkB (iblk0 V c 1 t) r C) := by
  unfold Fits
  rw [ent_blk]
  exact amax_wBlk_le hW _ _

theorem blk_amax (t : Fin cfg0.N) (i : Fin 256) (j : Fin 2048) :
    amax (ent (blkB (iblk0 V c 1 t) ⟨i.val / 128, by omega⟩ ⟨j.val / 128, by omega⟩))
      = amaxAt (inW V c) ⟨t.val * 256 + i, by have := lt0 t; omega⟩ j := by
  rw [ent_blk]
  unfold amaxAt
  congr 2
  exact Fin.ext (by show t.val * 2 + i.val / 128 = (t.val * 256 + i.val) / 128; omega)

theorem blk_entry (t : Fin cfg0.N) (i : Fin 256) (j : Fin 2048) :
    blkB (iblk0 V c 1 t) ⟨i.val / 128, by omega⟩ ⟨j.val / 128, by omega⟩ (ix2 ⟨i.val % 128, by omega⟩ ⟨j.val % 128, by omega⟩)
      = inW V c (ix2 (⟨t.val * 256 + i, by have := lt0 t; omega⟩ : Fin 8192) j) := by
  refine (congrFun (congrFun (ent_blk V c t ⟨i.val / 128, by omega⟩ ⟨j.val / 128, by omega⟩) ⟨i.val % 128, by omega⟩) ⟨j.val % 128, by omega⟩).trans ?_
  refine congrArg (inW V c) (ext2 ?_ ?_)
  · show (t.val * 2 + i.val / 128) * 128 + i.val % 128 = t.val * 256 + i.val; omega
  · show j.val / 128 * 128 + j.val % 128 = j.val; omega

/-- The codes of a weight block row. -/
theorem tiles_codes (hW : Small (inW V c)) (t : Fin cfg0.N) (i : Fin 256) (j : Fin 2048) :
    tiles codesB (iblk0 V c 1 t) (ix2 i j) = codeAt (inW V c) ⟨t.val * 256 + i, by have := lt0 t; omega⟩ j := by
  unfold tiles
  rw [← ix2_eq_valueIdx]
  refine (codesB_apply _ (fits_blk hW t _ _) _ _).trans ?_
  exact congrArg₂ (fun x a => clip (x * invOf a)) (blk_entry t i j) (blk_amax t i j)

/-- The quantised values of a weight block row. -/
theorem tiles_wq (hW : Small (inW V c)) (t : Fin cfg0.N) (i : Fin 256) (j : Fin 2048) :
    tiles wqB (iblk0 V c 1 t) (ix2 i j) = deqAt (inW V c) ⟨t.val * 256 + i, by have := lt0 t; omega⟩ j := by
  unfold tiles
  rw [← ix2_eq_valueIdx]
  refine (wqB_apply _ (fits_blk hW t _ _) _ _).trans ?_
  exact congrArg₂ (fun x a => clip (x * invOf a) * scaleOf a) (blk_entry t i j) (blk_amax t i j)

/-- The scale matrix. -/
theorem scaleMat_apply (hW : Small (inW V c)) (R : Fin 64) (C : Fin 16) :
    scaleMat V c (ix2 R C) = scaleOf (amax (wBlk (inW V c) R C)) := by
  show rowB (iblk0 V c 1 ⟨R.val / 2, by rw [show cfg0.N = 32 from N_0]; omega⟩) ⟨R.val % 2, Nat.mod_lt _ (by decide)⟩ (ValueIdx.ix2 0 C) = _
  rw [← ix2_eq_valueIdx]
  refine (rowB_apply _ _ (fun C => fits_blk hW _ _ C) C).trans ?_
  rw [ent_blk]
  congr 3
  exact Fin.ext (by show R.val / 2 * 2 + R.val % 2 = R.val; omega)

/-! The matrix products of one point. -/

theorem pay1_apply (x : Vec Ideal S6144x256 .bf16) (g : Vec Ideal S6144x2048 .bf16) (i : Fin 256) (j : Fin 2048) :
    k0_pay1 x g (ix2 i j) = ∑ k : Fin 6144, (x (ix2 k i) : EReal) * g (ix2 k j) := by
  pointwise [k0_pay1]

theorem pay237_apply (g : Vec Ideal S6144x2048 .bf16) (q : Vec Ideal S256x2048 .bf16) (i : Fin 6144) (j : Fin 256) :
    k0_pay237 g q (ix2 i j) = ∑ k : Fin 2048, (g (ix2 i k) : EReal) * q (ix2 j k) := by
  pointwise [k0_pay237]

theorem pay1'_apply (x : Vec Ideal S512x8192 .bf16) (q : Vec Ideal S8192x2048 .bf16) (i : Fin 512) (j : Fin 2048) :
    k1_pay1 x q (ix2 i j) = ∑ k : Fin 8192, (x (ix2 i k) : EReal) * q (ix2 k j) := by
  pointwise [k1_pay1]

end Cert.KernelIdeal.Gen
-- ==== Proof.KerOut.lean ====
module

public import proofs.«01_k».proof.Proof.KerArr
public import Idealize.ShloMosaic.Lib.Pipeline.ValueKit.Geometry

@[expose] public section

set_option maxRecDepth 16384

noncomputable section

namespace Cert.KernelIdeal.Gen

open Idealize.ShloMosaic Idealize.ShloMosaic.TcCoe Cert.Scale
open Idealize.ShloMosaic.Pipeline (Dat)

variable {V : Entry Ideal} {c : Dev nD}

/-! The arrays the two regions leave: the written blocks cover each. -/

/-- The matrix with the entries of `f`. -/
def ofRows {a b : ℕ} (f : Fin a → Fin b → EReal) : (⟨2, ![a, b]⟩ : Shape).Idx → EReal := fun x => f (x 0) (x 1)
theorem ofRows_ix2 {a b : ℕ} (f : Fin a → Fin b → EReal) (i : Fin a) (j : Fin b) : ofRows f (ix2 i j) = f i j := rfl

/-- The gradient of the weight. -/
def dwAt (x : Vec Ideal S6144x8192 .bf16) (g : Vec Ideal S6144x2048 .bf16) (r : Fin 8192) (n : Fin 2048) : EReal :=
  ∑ k : Fin 6144, (x (ix2 k r) : EReal) * g (ix2 k n)
/-- The gradient of the input. -/
def dxAt (g : Vec Ideal S6144x2048 .bf16) (W : Weight) (k : Fin 6144) (r : Fin 8192) : EReal :=
  ∑ n : Fin 2048, (g (ix2 k n) : EReal) * deqAt W r n
/-- The product of the input and the quantised weight. -/
def prodAt (x : Vec Ideal S6144x8192 .bf16) (q : Vec Ideal S8192x2048 .bf16) (k : Fin 6144) (n : Fin 2048) : EReal :=
  ∑ r : Fin 8192, (x (ix2 k r) : EReal) * q (ix2 r n)

theorem iblk1_0 (t : Fin cfg1.N) (i : Fin 512) (j : Fin 8192) :
    iblk1 V c 0 t (ix2 i j) = inX V c (ix2 (⟨t.val * 512 + i, by have := lt1 t; omega⟩ : Fin 6144) j) := congrArg (V c main_v0) (emb1_0 t i j)
theorem iblk1_1 (t : Fin cfg1.N) (i : Fin 8192) (j : Fin 2048) :
    iblk1 V c 1 t (ix2 i j) = (V c main_v2_4 : Vec Ideal S8192x2048 .bf16) (ix2 i j) := congrArg (V c main_v2_4) (emb1_1 t i j)

theorem point_dw (t : Fin cfg0.N) (i : Fin 256) (j : Fin 2048) : k0_pay1 (iblk0 V c 0 t) (iblk0 V c 2 t) (ix2 i j)
    = dwAt (inX V c) (inG V c) ⟨t.val * 256 + i, by have := lt0 t; omega⟩ j :=
  (pay1_apply _ _ i j).trans (Finset.sum_congr rfl fun k _ => congrArg₂ (fun a b : EReal => a * b) (iblk0_0 V c t k i) (iblk0_2 V c t k j))

theorem point_dx (hW : Small (inW V c)) (t : Fin cfg0.N) (i : Fin 6144) (j : Fin 256) :
    k0_pay237 (iblk0 V c 2 t) (tiles wqB (iblk0 V c 1 t)) (ix2 i j)
      = dxAt (inG V c) (inW V c) i ⟨t.val * 256 + j, by have := lt0 t; omega⟩ :=
  (pay237_apply _ _ i j).trans (Finset.sum_congr rfl fun k _ => congrArg₂ (fun a b : EReal => a * b) (iblk0_2 V c t i k) (tiles_wq hW t j k))

theorem point_prod (t : Fin cfg1.N) (i : Fin 512) (j : Fin 2048) : k1_pay1 (iblk1 V c 0 t) (iblk1 V c 1 t) (ix2 i j)
    = prodAt (inX V c) (V c main_v2_4) ⟨t.val * 512 + i, by have := lt1 t; omega⟩ j :=
  (pay1'_apply _ _ i j).trans (Finset.sum_congr rfl fun k _ => congrArg₂ (fun a b : EReal => a * b) (iblk1_0 t i k) (iblk1_1 t k j))

theorem arr0_5 (hW : Small (inW V c)) : (dat0 V c).arrAt 5 cfg0.N = ofRows (codeAt (inW V c)) :=
  Dat.arrAt_eq_of_covers (dat0 V c) 5 (ofRows (codeAt (inW V c))) (by decide +kernel) fun t _ y => by
    obtain ⟨i, j, rfl⟩ := as_pair y
    show (dat0 V c).after 5 t (ix2 i j) = ofRows (codeAt (inW V c)) (((cfg0.win 5).blk t).view.emb (ix2 i j))
    rw [emb0_5, after0_5, tiles_codes hW, ofRows_ix2]

theorem arr0_7 (hW : Small (inW V c)) : (dat0 V c).arrAt 7 cfg0.N = ofRows (deqAt (inW V c)) :=
  Dat.arrAt_eq_of_covers (dat0 V c) 7 (ofRows (deqAt (inW V c))) (by decide +kernel) fun t _ y => by
    obtain ⟨i, j, rfl⟩ := as_pair y
    show (dat0 V c).after 7 t (ix2 i j) = ofRows (deqAt (inW V c)) (((cfg0.win 7).blk t).view.emb (ix2 i j))
    rw [emb0_7, after0_7, tiles_wq hW, ofRows_ix2]

theorem arr0_6 (hW : Small (inW V c)) : (dat0 V c).arrAt 6 cfg0.N = ofRows (fun R C => scaleOf (amax (wBlk (inW V c) R C))) :=
  Dat.arrAt_eq_of_covers (dat0 V c) 6 (ofRows (fun R C => scaleOf (amax (wBlk (inW V c) R C)))) (by decide +kernel) fun t _ y => by
    obtain ⟨i, j, rfl⟩ := as_pair y
    show (dat0 V c).after 6 t (ix2 i j) = ofRows (fun R C => scaleOf (amax (wBlk (inW V c) R C))) (((cfg0.win 6).blk t).view.emb (ix2 i j))
    rw [emb0_6, after0_6, scaleMat_apply hW, ofRows_ix2]

theorem arr0_4 : (dat0 V c).arrAt 4 cfg0.N = ofRows (dwAt (inX V c) (inG V c)) :=
  Dat.arrAt_eq_of_covers (dat0 V c) 4 (ofRows (dwAt (inX V c) (inG V c))) (by decide +kernel) fun t _ y => by
    obtain ⟨i, j, rfl⟩ := as_pair y
    show (dat0 V c).after 4 t (ix2 i j) = ofRows (dwAt (inX V c) (inG V c)) (((cfg0.win 4).blk t).view.emb (ix2 i j))
    rw [emb0_4, after0_4, ofRows_ix2]
    exact point_dw t i j

theorem arr0_3 (hW : Small (inW V c)) : (dat0 V c).arrAt 3 cfg0.N = ofRows (dxAt (inG V c) (inW V c)) :=
  Dat.arrAt_eq_of_covers (dat0 V c) 3 (ofRows (dxAt (inG V c) (inW V c))) (by decide +kernel) fun t _ y => by
    obtain ⟨i, j, rfl⟩ := as_pair y
    show (dat0 V c).after 3 t (ix2 i j) = ofRows (dxAt (inG V c) (inW V c)) (((cfg0.win 3).blk t).view.emb (ix2 i j))
    rw [emb0_3, after0_3, ofRows_ix2]
    exact point_dx hW t i j

theorem arr1_2 : (dat1 V c).arrAt 2 cfg1.N = ofRows (prodAt (inX V c) (V c main_v2_4)) :=
  Dat.arrAt_eq_of_covers (dat1 V c) 2 (ofRows (prodAt (inX V c) (V c main_v2_4))) (by decide +kernel) fun t _ y => by
    obtain ⟨i, j, rfl⟩ := as_pair y
    show (dat1 V c).after 2 t (ix2 i j) = ofRows (prodAt (inX V c) (V c main_v2_4)) (((cfg1.win 2).blk t).view.emb (ix2 i j))
    rw [emb1_2, after1_2, ofRows_ix2]
    exact point_prod t i j

end Cert.KernelIdeal.Gen
-- ==== Proof.KerEnd.lean ====
module

public import proofs.«01_k».proof.Proof.KerOut

@[expose] public section

set_option maxRecDepth 16384

noncomputable section

namespace Cert.KernelIdeal.Gen

open Idealize.ShloMosaic Idealize.ShloMosaic.TcCoe Cert.Scale Idealize.SL.Sem
open Idealize.ShloMosaic.Pipeline (Dat)

variable (m : (ℓ : Loc nD τ sig) → Buf (Elt Ideal) ℓ) (ρ : Dev nD → PrngReg) (c : Dev nD)

/-! What the kernel leaves: the regions' arrays carried through the host's reshapes. -/

/-- The input, the weight and the output gradient as launched. -/
abbrev argX : Vec Ideal S6x1024x8192 .bf16 := m ((c : Thread nD τ).loc main_arg0)
abbrev argW : Vec Ideal S8192x2048 .f32 := m ((c : Thread nD τ).loc main_arg1)
abbrev argG : Vec Ideal S6x1024x2048 .bf16 := m ((c : Thread nD τ).loc main_arg2)

/-! The host's reshapes at an index. -/

theorem fold_x (x : Vec Ideal S6x1024x8192 .bf16) (k : Fin 6144) (r : Fin 8192) :
    shapeCast S6144x8192 x shapeCasts_S6x1024x8192_S6144x8192 (ix2 k r) = x (ix3 ⟨k / 1024, by omega⟩ ⟨k % 1024, by omega⟩ r) := by
  pointwise
theorem fold_g (g : Vec Ideal S6x1024x2048 .bf16) (k : Fin 6144) (n : Fin 2048) :
    shapeCast S6144x2048 g shapeCasts_S6x1024x2048_S6144x2048 (ix2 k n) = g (ix3 ⟨k / 1024, by omega⟩ ⟨k % 1024, by omega⟩ n) := by
  pointwise
theorem unfold_y (y : Vec Ideal S6144x2048 .bf16) (b : Fin 6) (s : Fin 1024) (n : Fin 2048) :
    shapeCast S6x1024x2048 y shapeCasts_S6144x2048_S6x1024x2048 (ix3 b s n) = y (ix2 ⟨b * 1024 + s, by omega⟩ n) := by
  pointwise
theorem unfold_x (y : Vec Ideal S6144x8192 .bf16) (b : Fin 6) (s : Fin 1024) (n : Fin 8192) :
    shapeCast S6x1024x8192 y shapeCasts_S6144x8192_S6x1024x8192 (ix3 b s n) = y (ix2 ⟨b * 1024 + s, by omega⟩ n) := by
  pointwise

/-- A row number split back into its two coordinates. -/
theorem split_row {n : ℕ} (b : Fin 6) (s : Fin 1024) (k : Fin n) :
    ix3 (⟨(b.val * 1024 + s.val) / 1024, by omega⟩ : Fin 6) (⟨(b.val * 1024 + s.val) % 1024, by omega⟩ : Fin 1024) k = ix3 b s k := by
  rw [show (⟨(b.val * 1024 + s.val) / 1024, by omega⟩ : Fin 6) = b from Fin.ext (by show (b.val * 1024 + s.val) / 1024 = b.val; omega),
    show (⟨(b.val * 1024 + s.val) % 1024, by omega⟩ : Fin 1024) = s from Fin.ext (by show (b.val * 1024 + s.val) % 1024 = s.val; omega)]

/-! Before region 0. -/

theorem enter0_x : enter0 m c main_v0 = shapeCast S6144x8192 (argX m c) shapeCasts_S6x1024x8192_S6144x8192 := by
  unfold enter0 hostOps0
  rw [StableHlo.after_cons, StableHlo.after_cons, StableHlo.after_nil, StableHlo.reshape_result_ne, StableHlo.reshape_result]
  · rfl
  · decide
theorem enter0_g : enter0 m c main_v1 = shapeCast S6144x2048 (argG m c) shapeCasts_S6x1024x2048_S6144x2048 := by
  unfold enter0 hostOps0
  rw [StableHlo.after_cons, StableHlo.after_cons, StableHlo.after_nil, StableHlo.reshape_result, StableHlo.reshape_result_ne]
  · rfl
  · decide
theorem enter0_w : inW (enter0 m) c = argW m c := enter0_of m c main_arg1 (by decide)

/-! Between the regions. -/

theorem enter1_arr (w : Fin cfg0.W) : enter1 m c (Pipeline.arrRef cfg0.spec w) = (dat0 (enter0 m) c).arrAt w cfg0.N :=
  Pipeline.afterRegion_arr (dat0 (enter0 m) c) (enter0 m c) launch0.win.arr_inj w
theorem leave1_arr (w : Fin cfg1.W) : leave1 m c (Pipeline.arrRef cfg1.spec w) = (dat1 (enter1 m) c).arrAt w cfg1.N :=
  Pipeline.afterRegion_arr (dat1 (enter1 m) c) (enter1 m c) launch1.win.arr_inj w

theorem enter1_x : enter1 m c main_v0 = enter0 m c main_v0 :=
  (enter1_arr m c 0).trans (((dat0 (enter0 m) c).arrAt_in 0 rfl _).trans (A0_eq (enter0 m) c 0))

/-! At the end. -/

theorem atEnd_y : atEnd m c main_v4 = shapeCast S6x1024x2048 (leave1 m c main_v3 : Vec Ideal S6144x2048 .bf16) shapeCasts_S6144x2048_S6x1024x2048 := by
  unfold atEnd hostOps2
  rw [StableHlo.after_cons, StableHlo.after_cons, StableHlo.after_nil, StableHlo.reshape_result_ne, StableHlo.reshape_result]
  · rfl
  · decide
theorem atEnd_dx : atEnd m c main_v5 = shapeCast S6x1024x8192 (leave1 m c main_v2_0 : Vec Ideal S6144x8192 .bf16) shapeCasts_S6144x8192_S6x1024x8192 := by
  unfold atEnd hostOps2
  rw [StableHlo.after_cons, StableHlo.after_cons, StableHlo.after_nil, StableHlo.reshape_result, StableHlo.reshape_result_ne]
  · rfl
  · decide

theorem end_arr (w : Fin cfg0.W) (r : Ref sig .tc) (hr : r = Pipeline.arrRef cfg0.spec w) (h1 : ∀ w, r ≠ Pipeline.arrRef cfg1.spec w) :
    leave1 m c r = hr ▸ (dat0 (enter0 m) c).arrAt w cfg0.N := by
  subst hr
  exact (leave1_of m c _ h1).trans (enter1_arr m c w)

variable {m c} (hW : Small (argW m c))
include hW

theorem end_codes : atEnd m c main_v2_2 = outCodes (argW m c) :=
  (atEnd_of m c main_v2_2 (by decide)).trans ((end_arr m c 5 main_v2_2 rfl (by decide)).trans
    ((arr0_5 (enter0_w m c ▸ hW)).trans (by rw [enter0_w]; rfl)))
theorem end_scales : atEnd m c main_v2_3 = outScales (argW m c) :=
  (atEnd_of m c main_v2_3 (by decide)).trans ((end_arr m c 6 main_v2_3 rfl (by decide)).trans
    ((arr0_6 (enter0_w m c ▸ hW)).trans (by rw [enter0_w]; rfl)))

theorem end_dx : atEnd m c main_v5 = outDx (argG m c) (argW m c) := by
  rw [atEnd_dx]
  funext i
  obtain ⟨b, s, n, rfl⟩ := as_triple i
  refine (unfold_x _ b s n).trans ?_
  refine (congrFun ((end_arr m c 3 main_v2_0 rfl (by decide)).trans (arr0_3 (enter0_w m c ▸ hW))) _).trans ?_
  rw [enter0_w]
  show @Eq EReal (dxAt (inG (enter0 m) c) (argW m c) ⟨b * 1024 + s, by omega⟩ n) (outDx (argG m c) (argW m c) (ix3 b s n))
  unfold dxAt outDx
  refine Finset.sum_congr rfl fun k _ => congrArg (fun a : EReal => a * deqAt (argW m c) n k) ?_
  show (enter0 m c main_v1 : Vec Ideal S6144x2048 .bf16) (ix2 ⟨b * 1024 + s, _⟩ k) = _
  rw [enter0_g]
  exact (fold_g _ _ _).trans (congrArg (argG m c) (split_row b s k))

theorem end_y : atEnd m c main_v4 = outY (argX m c) (argW m c) := by
  rw [atEnd_y]
  funext i
  obtain ⟨b, s, n, rfl⟩ := as_triple i
  refine (unfold_y _ b s n).trans ?_
  refine (congrFun ((leave1_arr m c 2).trans arr1_2) _).trans ?_
  show @Eq EReal (prodAt (inX (enter1 m) c) (enter1 m c main_v2_4) ⟨b * 1024 + s, by omega⟩ n) (outY (argX m c) (argW m c) (ix3 b s n))
  unfold prodAt outY
  refine Finset.sum_congr rfl fun k _ => congrArg₂ (fun a b : EReal => a * b) ?_ ?_
  · show (enter1 m c main_v0 : Vec Ideal S6144x8192 .bf16) (ix2 ⟨b * 1024 + s, _⟩ k) = _
    rw [enter1_x, enter0_x]
    exact (fold_x _ _ _).trans (congrArg (argX m c) (split_row b s k))
  · refine (congrFun ((enter1_arr m c 7).trans (arr0_7 (enter0_w m c ▸ hW))) _).trans ?_
    rw [enter0_w]; rfl

omit hW in
theorem end_dw : atEnd m c main_v2_1 = outDw (argX m c) (argG m c) := by
  rw [atEnd_of m c main_v2_1 (by decide)]
  funext i
  obtain ⟨r, n, rfl⟩ := as_pair i
  refine (congrFun ((end_arr m c 4 main_v2_1 rfl (by decide)).trans arr0_4) _).trans ?_
  show @Eq EReal (dwAt (inX (enter0 m) c) (inG (enter0 m) c) r n) (outDw (argX m c) (argG m c) (ix2 r n))
  unfold dwAt outDw
  refine Finset.sum_congr rfl fun k _ => congrArg₂ (fun a b : EReal => a * b) ?_ ?_
  · show (enter0 m c main_v0 : Vec Ideal S6144x8192 .bf16) (ix2 k r) = _
    rw [enter0_x]; exact fold_x _ _ _
  · show (enter0 m c main_v1 : Vec Ideal S6144x2048 .bf16) (ix2 k n) = _
    rw [enter0_g]; exact fold_g _ _ _

omit hW in
/-- The run of the kernel with its results named. -/
theorem run_values (hW : ∀ c, Small (argW m c)) : θ_run defs (onTc (τ := τ) (main (F := Ideal))) ⟨m, fun _ => 0, ρ⟩ (fun r => ∀ c : Dev nD,
    r.2.mem ((c.tc : Thread nD τ).loc main_v4) = outY (argX m c) (argW m c)
    ∧ r.2.mem ((c.tc : Thread nD τ).loc main_v5) = outDx (argG m c) (argW m c)
    ∧ r.2.mem ((c.tc : Thread nD τ).loc main_v2_1) = outDw (argX m c) (argG m c)
    ∧ r.2.mem ((c.tc : Thread nD τ).loc main_v2_2) = outCodes (argW m c)
    ∧ r.2.mem ((c.tc : Thread nD τ).loc main_v2_3) = outScales (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨(h.1 c _ (uc_mem main_v4 rfl)).trans (end_y (hW c)), (h.1 c _ (uc_mem main_v5 rfl)).trans (end_dx (hW c)),
    (h.1 c _ (uc_mem main_v2_1 rfl)).trans end_dw, (h.1 c _ (uc_mem main_v2_2 rfl)).trans (end_codes (hW c)),
    (h.1 c _ (uc_mem main_v2_3 rfl)).trans (end_scales (hW c)),
    (h.1 c _ (uc_mem main_arg0 rfl)).trans (atEnd_arg0 m c),
    (h.1 c _ (uc_mem main_arg1 rfl)).trans (atEnd_arg1 m c), (h.1 c _ (uc_mem main_arg2 rfl)).trans (atEnd_arg2 m c)⟩) (run_main m ρ)

end Cert.KernelIdeal.Gen
-- ==== Proof.RefExpo.lean ====
module

public import proofs.«01_k».proof.Proof.Gen.ReferenceIdeal.Skeleton
public import proofs.«01_k».proof.Proof.Spec
public import Idealize.ShloMosaic.Lib.Pointwise

@[expose] public section

set_option maxRecDepth 16384

noncomputable section

namespace Cert.ReferenceIdeal.Gen

open Idealize.ShloMosaic Idealize.ShloMosaic.TcCoe Cert.Scale

/-- The reference's exponent, from the block maxima. -/
def expoOf (v3 : FVec Ideal S64x16 .f32) : FVec Ideal S64x16 .f32 :=
  have v4 : FVec Ideal S64x16 .f32 := broadcast S64x16 (Scalar.ofBits .f32 0x3B124925#32)
  have v5 : FVec Ideal S64x16 .f32 := mulf v3 v4
  have v6 : FVec Ideal S64x16 .f32 := log v5
  have v7 : FVec Ideal S64x16 .f32 := broadcast S64x16 (Scalar.ofBits .f32 0x40000000#32)
  have v8 : FVec Ideal S64x16 .f32 := log v7
  have v9 : FVec Ideal S64x16 .f32 := divf v6 v8
  have v10 : FVec Ideal S64x16 .f32 := broadcast S64x16 (Scalar.ofBits .f32 0x00800000#32)
  have v11 : IVec S64x16 1 := cmpf .olt v5 v10
  have v12 : FVec Ideal S64x16 .f32 := floor v9
  have v13 : FVec Ideal S64x16 .f32 := broadcast S64x16 (Scalar.ofBits .f32 0x3F800000#32)
  have v14 : FVec Ideal S64x16 .f32 := addf v12 v13
  have v15 : FVec Ideal S64x16 .f32 := broadcast S64x16 (Scalar.ofBits .f32 0x00000000#32)
  select v11 v15 v14

theorem expoOf_apply (v3 : FVec Ideal S64x16 .f32) (R : Fin 64) (C : Fin 16) (h : 0 ≤ scaled (v3 (ix2 R C))) (ht : scaled (v3 (ix2 R C)) < pow2 126) :
    expoOf v3 (ix2 R C) = ((expo (scaled (v3 (ix2 R C))) : ℝ) : EReal) := by
  rw [← expo_of_log h ht]
  pointwise [expoOf]
  rw [← ofBits_two, ← ofBits_least, EReal.coe_one]
  rfl

theorem pay5_apply (W : Vec Ideal S8192x2048 .f32) (R : Fin 64) (C : Fin 16) (p q : Fin 128) :
    k0_pay5 W (ix4 R p C q) = W (ix2 ⟨R * 128 + p, by omega⟩ ⟨C * 128 + q, by omega⟩) := by
  pointwise [k0_pay5]

theorem maxima_apply (W : Vec Ideal S8192x2048 .f32) (R : Fin 64) (C : Fin 16) :
    multiReduction .maximumf [1, 3] S64x16 (absf (k0_pay5 W)) 0xFF800000#32 reduces_S64x128x16x128_S64x16 (.inl rfl) rfl (ix2 R C)
      = amax (wBlk W R C) := by
  refine (multiReduction_maximumf_eq_fold _ _ _ _ _ _).trans ?_
  refine le_antisymm ((Finset.fold_max_le _).2 ⟨ofBits_bot.le.trans bot_le, fun i hi => ?_⟩) (amax_le fun p q => (Finset.le_fold_max _).2 (.inr ⟨ix4 R p C q, ?_, ?_⟩))
  · have hd := (Finset.mem_filter.1 hi).2
    have h0 : (i 0 : ℕ) = R := by
      rw [← reduces_S64x128x16x128_S64x16.drop_apply_val_of_eq i 0 0, hd]; rfl
    have h2 : (i 2 : ℕ) = C := by
      rw [← reduces_S64x128x16x128_S64x16.drop_apply_val_of_eq i 1 2, hd]; rfl
    obtain ⟨p, q, hi'⟩ : ∃ p q : Fin 128, i = ix4 R p C q := by
      refine ⟨i 1, i 3, funext fun a => Fin.ext ?_⟩
      match a with
      | ⟨0, _⟩ => exact h0
      | ⟨1, _⟩ => rfl
      | ⟨2, _⟩ => exact h2
      | ⟨3, _⟩ => rfl
    rw [hi']
    show max (k0_pay5 W _) (- k0_pay5 W _) ≤ _
    rw [pay5_apply]
    exact le_amax (wBlk W R C) p q
  · refine Finset.mem_filter.2 ⟨Finset.mem_univ _, funext fun a => Fin.ext ?_⟩
    match a with
    | ⟨0, _⟩ => exact reduces_S64x128x16x128_S64x16.drop_apply_val_of_eq (ix4 R p C q) 0 0
    | ⟨1, _⟩ => exact reduces_S64x128x16x128_S64x16.drop_apply_val_of_eq (ix4 R p C q) 1 2
  · show _ ≤ max (k0_pay5 W _) (- k0_pay5 W _)
    rw [pay5_apply]

/-- The exponents are those of the block maxima. -/
theorem pay6_eq (W : Vec Ideal S8192x2048 .f32) :
    k0_pay6 W = expoOf (multiReduction .maximumf [1, 3] S64x16 (absf (k0_pay5 W)) 0xFF800000#32 reduces_S64x128x16x128_S64x16 (.inl rfl) rfl) := rfl

/-- The exponent of a block. -/
theorem pay6_apply {W : Vec Ideal S8192x2048 .f32} (hW : Small W) (R : Fin 64) (C : Fin 16) :
    k0_pay6 W (ix2 R C) = ((expo (scaled (amax (wBlk W R C))) : ℝ) : EReal) := by
  have hr := scaled_range (amax_nonneg (wBlk W R C)) (amax_wBlk_le hW R C)
  rw [← maxima_apply] at hr ⊢
  rw [pay6_eq]
  exact expoOf_apply _ R C hr.1 hr.2

end Cert.ReferenceIdeal.Gen
-- ==== Proof.RefBlock.lean ====
module

public import proofs.«01_k».proof.Proof.RefExpo
public import Idealize.ShloMosaic.Lib.Pointwise

@[expose] public section

set_option maxRecDepth 16384

noncomputable section

namespace Cert.ReferenceIdeal.Gen

open Idealize.ShloMosaic Idealize.ShloMosaic.TcCoe Cert.Scale

/-- The exponential of a whole array, at one index. -/
theorem exp2_at {s : Shape} (E : FVec Ideal s .f32) (i : s.Idx) : exp2 E i = Ideal.exp2 (E i) := rfl

/-- The scale of a block. -/
theorem pay7_apply {W : Vec Ideal S8192x2048 .f32} (hW : Small W) (R : Fin 64) (C : Fin 16) :
    k0_pay7 W (ix2 R C) = scaleOf (amax (wBlk W R C)) := by
  unfold k0_pay7
  rw [exp2_at, pay6_apply hW, exp2_int, scaleOf]

/-- The codes of the blocked weight `V` under the exponents `E`. -/
def codesOf (V : FVec Ideal S64x128x16x128 .f32) (E : FVec Ideal S64x16 .f32) : FVec Ideal S64x128x16x128 .fp8e4m3 :=
  have v18 : FVec Ideal S64x16 .f32 := broadcast S64x16 (Scalar.ofBits .f32 0x00000000#32)
  have v19 : FVec Ideal S64x16 .f32 := subf v18 E
  have v20 : FVec Ideal S64x16 .f32 := exp2 v19
  have v21 : FVec Ideal S64x1x16x1 .f32 := shapeCast S64x1x16x1 v20 shapeCasts_S64x16_S64x1x16x1
  have v22 : FVec Ideal S64x128x16x128 .f32 := broadcastTo S64x128x16x128 v21 broadcasts_S64x1x16x1_S64x128x16x128
  have v23 : FVec Ideal S64x128x16x128 .f32 := mulf V v22
  have v24 : FVec Ideal S64x128x16x128 .f32 := broadcast S64x128x16x128 (Scalar.ofBits .f32 0xC3E00000#32)
  have v25 : FVec Ideal S64x128x16x128 .f32 := maximumf v24 v23
  have v26 : FVec Ideal S64x128x16x128 .f32 := broadcast S64x128x16x128 (Scalar.ofBits .f32 0x43E00000#32)
  have v27 : FVec Ideal S64x128x16x128 .f32 := minimumf v26 v25
  truncf .fp8e4m3 v27 bitsLt_fp8e4m3_f32

theorem codesOf_apply (V : FVec Ideal S64x128x16x128 .f32) (E : FVec Ideal S64x16 .f32) (R : Fin 64) (C : Fin 16) (p q : Fin 128) (e : ℤ)
    (he : E (ix2 R C) = ((e : ℝ) : EReal)) : codesOf V E (ix4 R p C q) = clip (V (ix4 R p C q) * pow2 (- e)) := by
  pointwise [codesOf]
  rw [he, zero_sub, ← EReal.coe_neg, ← Int.cast_neg]
  show clip (_ * Ideal.exp2 _) = _
  rw [exp2_int]

theorem pay8_eq (W : Vec Ideal S8192x2048 .f32) : k0_pay8 W = codesOf (k0_pay5 W) (k0_pay6 W) := rfl

/-- The code of an entry of a block. -/
theorem pay8_apply {W : Vec Ideal S8192x2048 .f32} (hW : Small W) (R : Fin 64) (C : Fin 16) (p q : Fin 128) :
    k0_pay8 W (ix4 R p C q) = clip (wBlk W R C p q * invOf (amax (wBlk W R C))) := by
  rw [pay8_eq, codesOf_apply _ _ R C p q _ (pay6_apply hW R C), pay5_apply, invOf]

/-- The codes as stored. -/
theorem codes_apply {W : Vec Ideal S8192x2048 .f32} (hW : Small W) (r : Fin 8192) (c : Fin 2048) :
    k0_pay4 (k0_pay8 W) (ix2 r c) = codeAt W r c := by
  pointwise [k0_pay4]
  rw [pay8_apply hW]
  refine congrArg (fun x => clip (x * invOf _)) ?_
  show W (ix2 _ _) = W _
  congr 2 <;> exact Fin.ext (Nat.div_add_mod' _ _)

/-- The quantised weight as multiplied. -/
theorem pay9_apply {W : Vec Ideal S8192x2048 .f32} (hW : Small W) (r : Fin 8192) (c : Fin 2048) : k0_pay9 W (ix2 r c) = deqAt W r c := by
  have h := codes_apply hW r c
  pointwise [k0_pay4] at h
  pointwise [k0_pay9]
  rw [pay7_apply hW, h]; rfl

/-- The gradient of the weight. -/
theorem dw_apply (X : Vec Ideal S6x1024x8192 .bf16) (G : Vec Ideal S6x1024x2048 .bf16) (r : Fin 8192) (c : Fin 2048) :
    k0_pay1 (k0_pay10 X) (k0_pay11 G) (ix2 r c) = ∑ k : Fin 6144, (X (ix3 ⟨k / 1024, by omega⟩ ⟨k % 1024, by omega⟩ r) : EReal)
      * G (ix3 ⟨k / 1024, by omega⟩ ⟨k % 1024, by omega⟩ c) := by
  pointwise [k0_pay1, k0_pay10, k0_pay11]

/-- The product with the quantised weight. -/
theorem y_apply (W : Vec Ideal S8192x2048 .f32) (X : Vec Ideal S6x1024x8192 .bf16) (n : Fin 6) (r : Fin 1024) (c : Fin 2048) :
    k0_pay2 (k0_pay12 W X) (ix3 n r c) = ∑ k : Fin 8192, (X (ix3 n r k) : EReal) * k0_pay9 W (ix2 k c) := by
  pointwise [k0_pay2, k0_pay12, k0_pay10]

/-- The gradient of the input. -/
theorem dx_apply (W : Vec Ideal S8192x2048 .f32) (G : Vec Ideal S6x1024x2048 .bf16) (n : Fin 6) (r : Fin 1024) (c : Fin 8192) :
    k0_pay3 (k0_pay13 W G) (ix3 n r c) = ∑ k : Fin 2048, (G (ix3 n r k) : EReal) * k0_pay9 W (ix2 c k) := by
  pointwise [k0_pay3, k0_pay13, k0_pay11]

end Cert.ReferenceIdeal.Gen
-- ==== Proof.RefOut.lean ====
module

public import proofs.«01_k».proof.Proof.RefBlock
public import proofs.«01_k».proof.Proof.Gen.ReferenceIdeal.Frame
public import Idealize.ShloMosaic.Lib.Pipeline.Value
public import Idealize.ShloMosaic.Lib.Pipeline.ValueKit.Geometry

@[expose] public section

set_option maxRecDepth 16384

noncomputable section

namespace Cert.ReferenceIdeal.Gen

open Idealize.ShloMosaic Idealize.ShloMosaic.TcCoe Cert.Scale Idealize.SL.Sem
open Idealize.ShloMosaic.Pipeline (Dat)

variable (m : (ℓ : Loc nD τ sig) → Buf (Elt Ideal) ℓ) (ρ : Dev nD → PrngReg) (c : Dev nD)

/-! What the reference leaves: the one block of each window is its whole array. -/

theorem at_zero {x k b y : ℕ} (h : x = k * b + y) (hk : k = 0) : x = y := by rw [h, hk, Nat.zero_mul, Nat.zero_add]

theorem idx_0 : ∀ (t : Fin grid0.N) (a : Fin S6x1024x8192.rank), win0_0.index t a = 0 := by decide +kernel
theorem emb_0 (t : Fin cfg0.N) (y : S6x1024x8192.Idx) : ((cfg0.win 0).blk t).view.emb y = y :=
  funext fun a => Fin.ext (at_zero (win0_0.rect_emb_val t y a rfl) (idx_0 t a))
theorem idx_1 : ∀ (t : Fin grid0.N) (a : Fin S8192x2048.rank), win0_1.index t a = 0 := by decide +kernel
theorem emb_1 (t : Fin cfg0.N) (y : S8192x2048.Idx) : ((cfg0.win 1).blk t).view.emb y = y :=
  funext fun a => Fin.ext (at_zero (win0_1.rect_emb_val t y a rfl) (idx_1 t a))
theorem idx_2 : ∀ (t : Fin grid0.N) (a : Fin S6x1024x2048.rank), win0_2.index t a = 0 := by decide +kernel
theorem emb_2 (t : Fin cfg0.N) (y : S6x1024x2048.Idx) : ((cfg0.win 2).blk t).view.emb y = y :=
  funext fun a => Fin.ext (at_zero (win0_2.rect_emb_val t y a rfl) (idx_2 t a))
theorem idx_3 : ∀ (t : Fin grid0.N) (a : Fin S6x1024x2048.rank), win0_3.index t a = 0 := by decide +kernel
theorem emb_3 (t : Fin cfg0.N) (y : S6x1024x2048.Idx) : ((cfg0.win 3).blk t).view.emb y = y :=
  funext fun a => Fin.ext (at_zero (win0_3.rect_emb_val t y a rfl) (idx_3 t a))
theorem idx_4 : ∀ (t : Fin grid0.N) (a : Fin S6x1024x8192.rank), win0_4.index t a = 0 := by decide +kernel
theorem emb_4 (t : Fin cfg0.N) (y : S6x1024x8192.Idx) : ((cfg0.win 4).blk t).view.emb y = y :=
  funext fun a => Fin.ext (at_zero (win0_4.rect_emb_val t y a rfl) (idx_4 t a))
theorem idx_5 : ∀ (t : Fin grid0.N) (a : Fin S8192x2048.rank), win0_5.index t a = 0 := by decide +kernel
theorem emb_5 (t : Fin cfg0.N) (y : S8192x2048.Idx) : ((cfg0.win 5).blk t).view.emb y = y :=
  funext fun a => Fin.ext (at_zero (win0_5.rect_emb_val t y a rfl) (idx_5 t a))
theorem idx_6 : ∀ (t : Fin grid0.N) (a : Fin S8192x2048.rank), win0_6.index t a = 0 := by decide +kernel
theorem emb_6 (t : Fin cfg0.N) (y : S8192x2048.Idx) : ((cfg0.win 6).blk t).view.emb y = y :=
  funext fun a => Fin.ext (at_zero (win0_6.rect_emb_val t y a rfl) (idx_6 t a))
theorem idx_7 : ∀ (t : Fin grid0.N) (a : Fin S64x16.rank), win0_7.index t a = 0 := by decide +kernel
theorem emb_7 (t : Fin cfg0.N) (y : S64x16.Idx) : ((cfg0.win 7).blk t).view.emb y = y :=
  funext fun a => Fin.ext (at_zero (win0_7.rect_emb_val t y a rfl) (idx_7 t a))

/-- The input, the weight and the output gradient as launched. -/
abbrev argX : Vec Ideal S6x1024x8192 .bf16 := m ((c : Thread nD τ).loc main_arg0)
abbrev argW : Vec Ideal S8192x2048 .f32 := m ((c : Thread nD τ).loc main_arg1)
abbrev argG : Vec Ideal S6x1024x2048 .bf16 := m ((c : Thread nD τ).loc main_arg2)

theorem iblk_0 (t : Fin cfg0.N) : iblk m c 0 t = argX m c := funext fun y => congrArg (argX m c) (emb_0 t y)
theorem iblk_1 (t : Fin cfg0.N) : iblk m c 1 t = argW m c := funext fun y => congrArg (argW m c) (emb_1 t y)
theorem iblk_2 (t : Fin cfg0.N) : iblk m c 2 t = argG m c := funext fun y => congrArg (argG m c) (emb_2 t y)

theorem zero2 : (![0, 0] : Fin 2 → ℕ) = fun _ => 0 := by decide
theorem zero3 : (![0, 0, 0] : Fin 3 → ℕ) = fun _ => 0 := by decide

variable (x : Vec Ideal S6x1024x8192 .bf16) (W : Vec Ideal S8192x2048 .f32) (g : Vec Ideal S6x1024x2048 .bf16)

theorem out3_eq (hW : Small W) : out0_3 x W g = outY x W := by
  unfold out0_3
  rw [View.canon_unit_zero zero3, View.ld_unit_zero zero2, View.ld_unit_zero zero3]
  funext i
  obtain ⟨n, r, k, rfl⟩ := as_triple i
  exact (y_apply W x n r k).trans (Finset.sum_congr rfl fun j _ => congrArg (fun a : EReal => (x (ix3 n r j) : EReal) * a) (pay9_apply hW j k))

theorem out4_eq (hW : Small W) : out0_4 x W g = outDx g W := by
  unfold out0_4
  rw [View.canon_unit_zero zero3, View.ld_unit_zero zero2, View.ld_unit_zero zero3]
  funext i
  obtain ⟨n, r, k, rfl⟩ := as_triple i
  exact (dx_apply W g n r k).trans (Finset.sum_congr rfl fun j _ => congrArg (fun a : EReal => (g (ix3 n r j) : EReal) * a) (pay9_apply hW k j))

theorem out5_eq : out0_5 x W g = outDw x g := by
  unfold out0_5
  rw [View.canon_unit_zero zero2, View.ld_unit_zero zero3, View.ld_unit_zero zero3]
  funext i
  obtain ⟨r, k, rfl⟩ := as_pair i
  exact dw_apply x g r k

theorem out6_eq (hW : Small W) : out0_6 x W g = outCodes W := by
  unfold out0_6
  rw [View.canon_unit_zero zero2, View.ld_unit_zero zero2]
  funext i
  obtain ⟨r, k, rfl⟩ := as_pair i
  exact codes_apply hW r k

theorem out7_eq (hW : Small W) : out0_7 x W g = outScales W := by
  unfold out0_7
  rw [View.canon_unit_zero zero2, View.ld_unit_zero zero2]
  funext i
  obtain ⟨r, k, rfl⟩ := as_pair i
  exact pay7_apply hW r k

theorem arr_3 (hW : Small (argW m c)) : (dats m 0 c).arrAt 3 cfg0.N = outY (argX m c) (argW m c) :=
  Dat.arrAt_eq_of_covers (dats m 0 c) 3 (outY (argX m c) (argW m c)) (by decide +kernel) fun t _ y => by
    show (dats m 0 c).after 3 t y = outY (argX m c) (argW m c) (((cfg0.win 3).blk t).view.emb y)
    rw [emb_3, after0_3, iblk_0, iblk_1, iblk_2, out3_eq _ _ _ hW]

theorem arr_4 (hW : Small (argW m c)) : (dats m 0 c).arrAt 4 cfg0.N = outDx (argG m c) (argW m c) :=
  Dat.arrAt_eq_of_covers (dats m 0 c) 4 (outDx (argG m c) (argW m c)) (by decide +kernel) fun t _ y => by
    show (dats m 0 c).after 4 t y = outDx (argG m c) (argW m c) (((cfg0.win 4).blk t).view.emb y)
    rw [emb_4, after0_4, iblk_0, iblk_1, iblk_2, out4_eq _ _ _ hW]

theorem arr_5 : (dats m 0 c).arrAt 5 cfg0.N = outDw (argX m c) (argG m c) :=
  Dat.arrAt_eq_of_covers (dats m 0 c) 5 (outDw (argX m c) (argG m c)) (by decide +kernel) fun t _ y => by
    show (dats m 0 c).after 5 t y = outDw (argX m c) (argG m c) (((cfg0.win 5).blk t).view.emb y)
    rw [emb_5, after0_5, iblk_0, iblk_1, iblk_2, out5_eq]

theorem arr_6 (hW : Small (argW m c)) : (dats m 0 c).arrAt 6 cfg0.N = outCodes (argW m c) :=
  Dat.arrAt_eq_of_covers (dats m 0 c) 6 (outCodes (argW m c)) (by decide +kernel) fun t _ y => by
    show (dats m 0 c).after 6 t y = outCodes (argW m c) (((cfg0.win 6).blk t).view.emb y)
    rw [emb_6, after0_6, iblk_0, iblk_1, iblk_2, out6_eq _ _ _ hW]

theorem arr_7 (hW : Small (argW m c)) : (dats m 0 c).arrAt 7 cfg0.N = outScales (argW m c) :=
  Dat.arrAt_eq_of_covers (dats m 0 c) 7 (outScales (argW m c)) (by decide +kernel) fun t _ y => by
    show (dats m 0 c).after 7 t y = outScales (argW m c) (((cfg0.win 7).blk t).view.emb y)
    rw [emb_7, after0_7, iblk_0, iblk_1, iblk_2, out7_eq _ _ _ hW]

/-- The run of the reference with its results named. -/
theorem run_values (hW : ∀ c, Small (argW m c)) : θ_run defs (onTc (τ := τ) (main (F := Ideal))) ⟨m, fun _ => 0, ρ⟩ (fun r => ∀ c : Dev nD,
    r.2.mem ((c.tc : Thread nD τ).loc main_v0_0) = outY (argX m c) (argW m c)
    ∧ r.2.mem ((c.tc : Thread nD τ).loc main_v0_1) = outDx (argG m c) (argW m c)
    ∧ r.2.mem ((c.tc : Thread nD τ).loc main_v0_2) = outDw (argX m c) (argG m c)
    ∧ r.2.mem ((c.tc : Thread nD τ).loc main_v0_3) = outCodes (argW m c)
    ∧ r.2.mem ((c.tc : Thread nD τ).loc main_v0_4) = outScales (argW m c)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)) :=
  (θ_run defs _ _).mono (fun _ h c => ⟨((h.1 c).1 3).trans (arr_3 m c (hW c)), ((h.1 c).1 4).trans (arr_4 m c (hW c)), ((h.1 c).1 5).trans (arr_5 m c),
    ((h.1 c).1 6).trans (arr_6 m c (hW c)), ((h.1 c).1 7).trans (arr_7 m c (hW c)), h.2 c⟩) (θ_run_and (run_main m ρ) (unchanged m ρ))

end Cert.ReferenceIdeal.Gen
-- ==== Proof.Agree.lean ====
module

public import proofs.«01_k».proof.Defs
public import proofs.«01_k».proof.Proof.KerEnd
public import proofs.«01_k».proof.Proof.RefOut

@[expose] public section

set_option maxRecDepth 16384

noncomputable section

namespace Cert.Agree

open Idealize.ShloMosaic Idealize.SL.Sem Cert.Scale

/-! The two programs agree at the exact reading. -/

/-- The side condition of the precondition's broadcast. -/
theorem preFacts : Cert.Pre_finite_weights.Facts where
  bcast_S_S8192x2048 := by decide

/-- What the precondition says of each weight. -/
theorem small_of_pre (x : FVec Ideal Cert.Pre_finite_weights.S6x1024x8192 .bf16) (W : FVec Ideal Cert.Pre_finite_weights.S8192x2048 .f32)
    (g : FVec Ideal Cert.Pre_finite_weights.S6x1024x2048 .bf16)
    (h : @Cert.Pre_finite_weights.fn preFacts Ideal _ x W g = fun _ => 1#1) : Small W := by
  intro r n
  have h1 := congrFun h (ix2 r n)
  change BitVec.ofBool (decide (max (W (ix2 r n)) (- W (ix2 r n)) ≤ Ideal.ofBits .f32 0x7F7FFFFF#32)) = 1#1 at h1
  by_contra hn
  rw [decide_eq_false hn] at h1
  exact absurd h1 (by decide)

theorem algebraic : Cert.algebraic_KernelIdeal_ReferenceIdeal_pre_finite_weights
    (hKernelIdeal := Cert.KernelIdeal.Gen.facts) (hReferenceIdeal := Cert.ReferenceIdeal.Gen.facts) (hPre_finite_weights := preFacts) := by
  intro m g m' g' hpre hargs
  have hW : ∀ c, Small (Cert.KernelIdeal.Gen.argW m c) := fun c => small_of_pre _ _ _ (hpre c)
  have hX : ∀ c, Cert.ReferenceIdeal.Gen.argX m' c = Cert.KernelIdeal.Gen.argX m c := fun c => (hargs c).1
  have hV : ∀ c, Cert.ReferenceIdeal.Gen.argW m' c = Cert.KernelIdeal.Gen.argW m c := fun c => (hargs c).2.1
  have hG : ∀ c, Cert.ReferenceIdeal.Gen.argG m' c = Cert.KernelIdeal.Gen.argG m c := fun c => (hargs c).2.2
  refine ⟨fun c => outY (Cert.KernelIdeal.Gen.argX m c) (Cert.KernelIdeal.Gen.argW m c), fun c => outDx (Cert.KernelIdeal.Gen.argG m c) (Cert.KernelIdeal.Gen.argW m c),
    fun c => outDw (Cert.KernelIdeal.Gen.argX m c) (Cert.KernelIdeal.Gen.argG m c), fun c => outCodes (Cert.KernelIdeal.Gen.argW m c),
    fun c => outScales (Cert.KernelIdeal.Gen.argW m c), Cert.KernelIdeal.Gen.run_values g hW, ?_⟩
  refine (θ_run _ _ _).mono (fun _ h c => ?_) (Cert.ReferenceIdeal.Gen.run_values m' g' fun c => hV c ▸ hW c)
  have h1 := h c
  rw [hX, hV, hG] at h1
  exact h1

end Cert.Agree
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KRun
public import proofs.«01_k».proof.Proof.Run
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Agree.preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ, trivial, Cert.Agree.algebraic⟩

end Cert.Proof

end
